-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x512 : Shape := ⟨2, ![512, 512]⟩
abbrev S_ : Shape := ⟨0, ![]⟩
abbrev S8 : Shape := ⟨1, ![8]⟩
abbrev S4 : Shape := ⟨1, ![4]⟩
abbrev S1 : Shape := ⟨1, ![1]⟩
abbrev S64x512 : Shape := ⟨2, ![64, 512]⟩

abbrev nBuf : Space → Nat
  | .hbm => 2
  | .vmem => 3
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .local _ .vmem, ⟨0, _⟩ => ⟨S2048x512, .f32⟩
  | .local _ .vmem, ⟨1, _⟩ => ⟨S512x512, .f32⟩
  | .local _ .vmem, ⟨2, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v14 : BitVec 32 := Scalar.muli v13 c512_i32
  let c0_i32 : BitVec 32 := 0#32
  ![v14.toNat, 0]
def k0_dev1 (d0 : Dev nD) : Nat :=
  let c0_i32_14 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_13 : BitVec 32 := 4#32
  let v25 : BitVec 32 := Scalar.muli v9 c4_i32_13
  let v26 : BitVec 32 := Scalar.addi c0_i32_14 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v27 : BitVec 32 := Scalar.muli v5 c2_i32_15
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v29 : BitVec 32 := Scalar.muli v8 c1_i32_16
  let v30 : BitVec 32 := Scalar.addi v28 v29
  v30.toNat
def k0_dev2 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v31 : BitVec 32 := Scalar.muli v2 c4_i32_18
  let v32 : BitVec 32 := Scalar.addi c0_i32_19 v31
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_20 : BitVec 32 := 2#32
  let v33 : BitVec 32 := Scalar.muli v10 c2_i32_20
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v35 : BitVec 32 := Scalar.muli v8 c1_i32_21
  let v36 : BitVec 32 := Scalar.addi v34 v35
  v36.toNat
def k0_dev3 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v37 : BitVec 32 := Scalar.muli v2 c4_i32_23
  let v38 : BitVec 32 := Scalar.addi c0_i32_24 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_25 : BitVec 32 := 2#32
  let v39 : BitVec 32 := Scalar.muli v5 c2_i32_25
  let v40 : BitVec 32 := Scalar.addi v38 v39
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_26 : BitVec 32 := 1#32
  let v41 : BitVec 32 := Scalar.muli v11 c1_i32_26
  let v42 : BitVec 32 := Scalar.addi v40 v41
  v42.toNat
def k0_dev4 (d0 : Dev nD) : Nat :=
  let c0_i32_32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_31 : BitVec 32 := 4#32
  let v44 : BitVec 32 := Scalar.muli v9 c4_i32_31
  let v45 : BitVec 32 := Scalar.addi c0_i32_32 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v46 : BitVec 32 := Scalar.muli v5 c2_i32_33
  let v47 : BitVec 32 := Scalar.addi v45 v46
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_34 : BitVec 32 := 1#32
  let v48 : BitVec 32 := Scalar.muli v8 c1_i32_34
  let v49 : BitVec 32 := Scalar.addi v47 v48
  v49.toNat
def k0_dev5 (d0 : Dev nD) : Nat :=
  let c0_i32_42 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_41 : BitVec 32 := 4#32
  let v56 : BitVec 32 := Scalar.muli v9 c4_i32_41
  let v57 : BitVec 32 := Scalar.addi c0_i32_42 v56
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_43 : BitVec 32 := 2#32
  let v58 : BitVec 32 := Scalar.muli v5 c2_i32_43
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_44 : BitVec 32 := 1#32
  let v60 : BitVec 32 := Scalar.muli v8 c1_i32_44
  let v61 : BitVec 32 := Scalar.addi v59 v60
  v61.toNat
def k0_dev6 (d0 : Dev nD) : Nat :=
  let c0_i32_51 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_50 : BitVec 32 := 4#32
  let v68 : BitVec 32 := Scalar.muli v9 c4_i32_50
  let v69 : BitVec 32 := Scalar.addi c0_i32_51 v68
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_52 : BitVec 32 := 2#32
  let v70 : BitVec 32 := Scalar.muli v5 c2_i32_52
  let v71 : BitVec 32 := Scalar.addi v69 v70
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_53 : BitVec 32 := 1#32
  let v72 : BitVec 32 := Scalar.muli v8 c1_i32_53
  let v73 : BitVec 32 := Scalar.addi v71 v72
  v73.toNat
def k0_dev7 (d0 : Dev nD) : Nat :=
  let c0_i32_60 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_59 : BitVec 32 := 4#32
  let v80 : BitVec 32 := Scalar.muli v9 c4_i32_59
  let v81 : BitVec 32 := Scalar.addi c0_i32_60 v80
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v82 : BitVec 32 := Scalar.muli v5 c2_i32_61
  let v83 : BitVec 32 := Scalar.addi v81 v82
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_62 : BitVec 32 := 1#32
  let v84 : BitVec 32 := Scalar.muli v8 c1_i32_62
  let v85 : BitVec 32 := Scalar.addi v83 v84
  v85.toNat
def k0_dev8 (d0 : Dev nD) : Nat :=
  let c0_i32_69 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_68 : BitVec 32 := 4#32
  let v92 : BitVec 32 := Scalar.muli v9 c4_i32_68
  let v93 : BitVec 32 := Scalar.addi c0_i32_69 v92
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v94 : BitVec 32 := Scalar.muli v5 c2_i32_70
  let v95 : BitVec 32 := Scalar.addi v93 v94
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v96 : BitVec 32 := Scalar.muli v8 c1_i32_71
  let v97 : BitVec 32 := Scalar.addi v95 v96
  v97.toNat
def k0_dev9 (d0 : Dev nD) : Nat :=
  let c0_i32_77 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_76 : BitVec 32 := 4#32
  let v104 : BitVec 32 := Scalar.muli v9 c4_i32_76
  let v105 : BitVec 32 := Scalar.addi c0_i32_77 v104
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_78 : BitVec 32 := 2#32
  let v106 : BitVec 32 := Scalar.muli v5 c2_i32_78
  let v107 : BitVec 32 := Scalar.addi v105 v106
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_79 : BitVec 32 := 1#32
  let v108 : BitVec 32 := Scalar.muli v8 c1_i32_79
  let v109 : BitVec 32 := Scalar.addi v107 v108
  v109.toNat
def k0_dev10 (d0 : Dev nD) : Nat :=
  let c0_i32_85 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_84 : BitVec 32 := 4#32
  let v116 : BitVec 32 := Scalar.muli v9 c4_i32_84
  let v117 : BitVec 32 := Scalar.addi c0_i32_85 v116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_86 : BitVec 32 := 2#32
  let v118 : BitVec 32 := Scalar.muli v5 c2_i32_86
  let v119 : BitVec 32 := Scalar.addi v117 v118
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_87 : BitVec 32 := 1#32
  let v120 : BitVec 32 := Scalar.muli v8 c1_i32_87
  let v121 : BitVec 32 := Scalar.addi v119 v120
  v121.toNat
def k0_dev11 (d0 : Dev nD) : Nat :=
  let c0_i32_93 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_92 : BitVec 32 := 4#32
  let v128 : BitVec 32 := Scalar.muli v9 c4_i32_92
  let v129 : BitVec 32 := Scalar.addi c0_i32_93 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_94 : BitVec 32 := 2#32
  let v130 : BitVec 32 := Scalar.muli v5 c2_i32_94
  let v131 : BitVec 32 := Scalar.addi v129 v130
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_95 : BitVec 32 := 1#32
  let v132 : BitVec 32 := Scalar.muli v8 c1_i32_95
  let v133 : BitVec 32 := Scalar.addi v131 v132
  v133.toNat
def k0_off2 (d0 : Dev nD) (c0_i32_111 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v14 : BitVec 32 := Scalar.muli v13 c512_i32
  let v150 : BitVec 32 := Scalar.addi v14 c0_i32_111
  let v154 : Index := Scalar.indexCast v150
  let c0_115 : Index := 0#32
  ![v154.toNat, 0]
def k0_off3 (d0 : Dev nD) (c0_i32_111 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v14 : BitVec 32 := Scalar.muli v13 c512_i32
  let v150 : BitVec 32 := Scalar.addi v14 c0_i32_111
  let c0_i32_122 : BitVec 32 := 0#32
  ![v150.toNat, 0]
def k0_dev12 (d0 : Dev nD) : Nat :=
  let c0_i32_119 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_118 : BitVec 32 := 4#32
  let v156 : BitVec 32 := Scalar.muli v2 c4_i32_118
  let v157 : BitVec 32 := Scalar.addi c0_i32_119 v156
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_120 : BitVec 32 := 2#32
  let v158 : BitVec 32 := Scalar.muli v10 c2_i32_120
  let v159 : BitVec 32 := Scalar.addi v157 v158
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_121 : BitVec 32 := 1#32
  let v160 : BitVec 32 := Scalar.muli v8 c1_i32_121
  let v161 : BitVec 32 := Scalar.addi v159 v160
  v161.toNat
def k0_dev13 (d0 : Dev nD) : Nat :=
  let c0_i32_127 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_126 : BitVec 32 := 4#32
  let v168 : BitVec 32 := Scalar.muli v2 c4_i32_126
  let v169 : BitVec 32 := Scalar.addi c0_i32_127 v168
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_128 : BitVec 32 := 2#32
  let v170 : BitVec 32 := Scalar.muli v5 c2_i32_128
  let v171 : BitVec 32 := Scalar.addi v169 v170
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_129 : BitVec 32 := 1#32
  let v172 : BitVec 32 := Scalar.muli v11 c1_i32_129
  let v173 : BitVec 32 := Scalar.addi v171 v172
  v173.toNat
def k0_dev14 (d0 : Dev nD) : Nat :=
  let c0_i32_150 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_149 : BitVec 32 := 4#32
  let v196 : BitVec 32 := Scalar.muli v2 c4_i32_149
  let v197 : BitVec 32 := Scalar.addi c0_i32_150 v196
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_151 : BitVec 32 := 2#32
  let v198 : BitVec 32 := Scalar.muli v10 c2_i32_151
  let v199 : BitVec 32 := Scalar.addi v197 v198
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_152 : BitVec 32 := 1#32
  let v200 : BitVec 32 := Scalar.muli v8 c1_i32_152
  let v201 : BitVec 32 := Scalar.addi v199 v200
  v201.toNat
def k0_dev15 (d0 : Dev nD) : Nat :=
  let c0_i32_158 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_157 : BitVec 32 := 4#32
  let v208 : BitVec 32 := Scalar.muli v2 c4_i32_157
  let v209 : BitVec 32 := Scalar.addi c0_i32_158 v208
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_159 : BitVec 32 := 2#32
  let v210 : BitVec 32 := Scalar.muli v5 c2_i32_159
  let v211 : BitVec 32 := Scalar.addi v209 v210
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_160 : BitVec 32 := 1#32
  let v212 : BitVec 32 := Scalar.muli v11 c1_i32_160
  let v213 : BitVec 32 := Scalar.addi v211 v212
  v213.toNat
def k0_dev16 (d0 : Dev nD) : Nat :=
  let c0_i32_181 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_180 : BitVec 32 := 4#32
  let v236 : BitVec 32 := Scalar.muli v2 c4_i32_180
  let v237 : BitVec 32 := Scalar.addi c0_i32_181 v236
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_182 : BitVec 32 := 2#32
  let v238 : BitVec 32 := Scalar.muli v10 c2_i32_182
  let v239 : BitVec 32 := Scalar.addi v237 v238
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_183 : BitVec 32 := 1#32
  let v240 : BitVec 32 := Scalar.muli v8 c1_i32_183
  let v241 : BitVec 32 := Scalar.addi v239 v240
  v241.toNat
def k0_dev17 (d0 : Dev nD) : Nat :=
  let c0_i32_189 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_188 : BitVec 32 := 4#32
  let v248 : BitVec 32 := Scalar.muli v2 c4_i32_188
  let v249 : BitVec 32 := Scalar.addi c0_i32_189 v248
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_190 : BitVec 32 := 2#32
  let v250 : BitVec 32 := Scalar.muli v5 c2_i32_190
  let v251 : BitVec 32 := Scalar.addi v249 v250
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_191 : BitVec 32 := 1#32
  let v252 : BitVec 32 := Scalar.muli v11 c1_i32_191
  let v253 : BitVec 32 := Scalar.addi v251 v252
  v253.toNat
def k0_dev18 (d0 : Dev nD) : Nat :=
  let c0_i32_212 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_211 : BitVec 32 := 4#32
  let v276 : BitVec 32 := Scalar.muli v2 c4_i32_211
  let v277 : BitVec 32 := Scalar.addi c0_i32_212 v276
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_213 : BitVec 32 := 2#32
  let v278 : BitVec 32 := Scalar.muli v10 c2_i32_213
  let v279 : BitVec 32 := Scalar.addi v277 v278
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_214 : BitVec 32 := 1#32
  let v280 : BitVec 32 := Scalar.muli v8 c1_i32_214
  let v281 : BitVec 32 := Scalar.addi v279 v280
  v281.toNat
def k0_dev19 (d0 : Dev nD) : Nat :=
  let c0_i32_220 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_219 : BitVec 32 := 4#32
  let v288 : BitVec 32 := Scalar.muli v2 c4_i32_219
  let v289 : BitVec 32 := Scalar.addi c0_i32_220 v288
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_221 : BitVec 32 := 2#32
  let v290 : BitVec 32 := Scalar.muli v5 c2_i32_221
  let v291 : BitVec 32 := Scalar.addi v289 v290
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_222 : BitVec 32 := 1#32
  let v292 : BitVec 32 := Scalar.muli v11 c1_i32_222
  let v293 : BitVec 32 := Scalar.addi v291 v292
  v293.toNat
def k0_dev20 (d0 : Dev nD) : Nat :=
  let c0_i32_243 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_242 : BitVec 32 := 4#32
  let v316 : BitVec 32 := Scalar.muli v2 c4_i32_242
  let v317 : BitVec 32 := Scalar.addi c0_i32_243 v316
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_244 : BitVec 32 := 2#32
  let v318 : BitVec 32 := Scalar.muli v10 c2_i32_244
  let v319 : BitVec 32 := Scalar.addi v317 v318
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_245 : BitVec 32 := 1#32
  let v320 : BitVec 32 := Scalar.muli v8 c1_i32_245
  let v321 : BitVec 32 := Scalar.addi v319 v320
  v321.toNat
def k0_dev21 (d0 : Dev nD) : Nat :=
  let c0_i32_251 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_250 : BitVec 32 := 4#32
  let v328 : BitVec 32 := Scalar.muli v2 c4_i32_250
  let v329 : BitVec 32 := Scalar.addi c0_i32_251 v328
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_252 : BitVec 32 := 2#32
  let v330 : BitVec 32 := Scalar.muli v5 c2_i32_252
  let v331 : BitVec 32 := Scalar.addi v329 v330
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_253 : BitVec 32 := 1#32
  let v332 : BitVec 32 := Scalar.muli v11 c1_i32_253
  let v333 : BitVec 32 := Scalar.addi v331 v332
  v333.toNat
def k0_dev22 (d0 : Dev nD) : Nat :=
  let c0_i32_274 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_273 : BitVec 32 := 4#32
  let v356 : BitVec 32 := Scalar.muli v2 c4_i32_273
  let v357 : BitVec 32 := Scalar.addi c0_i32_274 v356
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_275 : BitVec 32 := 2#32
  let v358 : BitVec 32 := Scalar.muli v10 c2_i32_275
  let v359 : BitVec 32 := Scalar.addi v357 v358
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_276 : BitVec 32 := 1#32
  let v360 : BitVec 32 := Scalar.muli v8 c1_i32_276
  let v361 : BitVec 32 := Scalar.addi v359 v360
  v361.toNat
def k0_dev23 (d0 : Dev nD) : Nat :=
  let c0_i32_282 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_281 : BitVec 32 := 4#32
  let v368 : BitVec 32 := Scalar.muli v2 c4_i32_281
  let v369 : BitVec 32 := Scalar.addi c0_i32_282 v368
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_283 : BitVec 32 := 2#32
  let v370 : BitVec 32 := Scalar.muli v5 c2_i32_283
  let v371 : BitVec 32 := Scalar.addi v369 v370
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_284 : BitVec 32 := 1#32
  let v372 : BitVec 32 := Scalar.muli v11 c1_i32_284
  let v373 : BitVec 32 := Scalar.addi v371 v372
  v373.toNat
def k0_dev24 (d0 : Dev nD) : Nat :=
  let c0_i32_305 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_304 : BitVec 32 := 4#32
  let v396 : BitVec 32 := Scalar.muli v2 c4_i32_304
  let v397 : BitVec 32 := Scalar.addi c0_i32_305 v396
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_306 : BitVec 32 := 2#32
  let v398 : BitVec 32 := Scalar.muli v10 c2_i32_306
  let v399 : BitVec 32 := Scalar.addi v397 v398
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_307 : BitVec 32 := 1#32
  let v400 : BitVec 32 := Scalar.muli v8 c1_i32_307
  let v401 : BitVec 32 := Scalar.addi v399 v400
  v401.toNat
def k0_dev25 (d0 : Dev nD) : Nat :=
  let c0_i32_313 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_312 : BitVec 32 := 4#32
  let v408 : BitVec 32 := Scalar.muli v2 c4_i32_312
  let v409 : BitVec 32 := Scalar.addi c0_i32_313 v408
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_314 : BitVec 32 := 2#32
  let v410 : BitVec 32 := Scalar.muli v5 c2_i32_314
  let v411 : BitVec 32 := Scalar.addi v409 v410
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_315 : BitVec 32 := 1#32
  let v412 : BitVec 32 := Scalar.muli v11 c1_i32_315
  let v413 : BitVec 32 := Scalar.addi v411 v412
  v413.toNat
def k0_dev26 (d0 : Dev nD) : Nat :=
  let c0_i32_336 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_335 : BitVec 32 := 4#32
  let v436 : BitVec 32 := Scalar.muli v2 c4_i32_335
  let v437 : BitVec 32 := Scalar.addi c0_i32_336 v436
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_337 : BitVec 32 := 2#32
  let v438 : BitVec 32 := Scalar.muli v10 c2_i32_337
  let v439 : BitVec 32 := Scalar.addi v437 v438
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_338 : BitVec 32 := 1#32
  let v440 : BitVec 32 := Scalar.muli v8 c1_i32_338
  let v441 : BitVec 32 := Scalar.addi v439 v440
  v441.toNat
def k0_dev27 (d0 : Dev nD) : Nat :=
  let c0_i32_344 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_343 : BitVec 32 := 4#32
  let v448 : BitVec 32 := Scalar.muli v2 c4_i32_343
  let v449 : BitVec 32 := Scalar.addi c0_i32_344 v448
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_345 : BitVec 32 := 2#32
  let v450 : BitVec 32 := Scalar.muli v5 c2_i32_345
  let v451 : BitVec 32 := Scalar.addi v449 v450
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_346 : BitVec 32 := 1#32
  let v452 : BitVec 32 := Scalar.muli v11 c1_i32_346
  let v453 : BitVec 32 := Scalar.addi v451 v452
  v453.toNat
def k0_off4 (d0 : Dev nD) (c0_i32_350 : BitVec 32) : Fin 2 → Nat :=
  let c2_i32_10 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_10 v5
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let v21 : BitVec 32 := Scalar.addi v19 v20
  let c512_i32_12 : BitVec 32 := 512#32
  let v22 : BitVec 32 := Scalar.muli v21 c512_i32_12
  let v461 : BitVec 32 := Scalar.addi v22 c0_i32_350
  let c0_i32_357 : BitVec 32 := 0#32
  ![v461.toNat, 0]
def k0_dev28 (d0 : Dev nD) : Nat :=
  let c0_i32_363 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_362 : BitVec 32 := 4#32
  let v473 : BitVec 32 := Scalar.muli v2 c4_i32_362
  let v474 : BitVec 32 := Scalar.addi c0_i32_363 v473
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_364 : BitVec 32 := 2#32
  let v475 : BitVec 32 := Scalar.muli v10 c2_i32_364
  let v476 : BitVec 32 := Scalar.addi v474 v475
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_365 : BitVec 32 := 1#32
  let v477 : BitVec 32 := Scalar.muli v8 c1_i32_365
  let v478 : BitVec 32 := Scalar.addi v476 v477
  v478.toNat
def k0_dev29 (d0 : Dev nD) : Nat :=
  let c0_i32_382 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_381 : BitVec 32 := 4#32
  let v498 : BitVec 32 := Scalar.muli v2 c4_i32_381
  let v499 : BitVec 32 := Scalar.addi c0_i32_382 v498
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_383 : BitVec 32 := 2#32
  let v500 : BitVec 32 := Scalar.muli v10 c2_i32_383
  let v501 : BitVec 32 := Scalar.addi v499 v500
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_384 : BitVec 32 := 1#32
  let v502 : BitVec 32 := Scalar.muli v8 c1_i32_384
  let v503 : BitVec 32 := Scalar.addi v501 v502
  v503.toNat
def k0_dev30 (d0 : Dev nD) : Nat :=
  let c0_i32_401 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_400 : BitVec 32 := 4#32
  let v523 : BitVec 32 := Scalar.muli v2 c4_i32_400
  let v524 : BitVec 32 := Scalar.addi c0_i32_401 v523
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_402 : BitVec 32 := 2#32
  let v525 : BitVec 32 := Scalar.muli v10 c2_i32_402
  let v526 : BitVec 32 := Scalar.addi v524 v525
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_403 : BitVec 32 := 1#32
  let v527 : BitVec 32 := Scalar.muli v8 c1_i32_403
  let v528 : BitVec 32 := Scalar.addi v526 v527
  v528.toNat
def k0_dev31 (d0 : Dev nD) : Nat :=
  let c0_i32_420 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_419 : BitVec 32 := 4#32
  let v548 : BitVec 32 := Scalar.muli v2 c4_i32_419
  let v549 : BitVec 32 := Scalar.addi c0_i32_420 v548
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_421 : BitVec 32 := 2#32
  let v550 : BitVec 32 := Scalar.muli v10 c2_i32_421
  let v551 : BitVec 32 := Scalar.addi v549 v550
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_422 : BitVec 32 := 1#32
  let v552 : BitVec 32 := Scalar.muli v8 c1_i32_422
  let v553 : BitVec 32 := Scalar.addi v551 v552
  v553.toNat
def k0_off5 (d0 : Dev nD) (c256_i32_426 : BitVec 32) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v16 : BitVec 32 := Scalar.muli c2_i32_8 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c512_i32_9 : BitVec 32 := 512#32
  let v18 : BitVec 32 := Scalar.muli v17 c512_i32_9
  let v561 : BitVec 32 := Scalar.addi v18 c256_i32_426
  let c0_i32_433 : BitVec 32 := 0#32
  ![v561.toNat, 0]
def k0_dev32 (d0 : Dev nD) : Nat :=
  let c0_i32_439 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_438 : BitVec 32 := 4#32
  let v573 : BitVec 32 := Scalar.muli v2 c4_i32_438
  let v574 : BitVec 32 := Scalar.addi c0_i32_439 v573
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_440 : BitVec 32 := 2#32
  let v575 : BitVec 32 := Scalar.muli v5 c2_i32_440
  let v576 : BitVec 32 := Scalar.addi v574 v575
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_441 : BitVec 32 := 1#32
  let v577 : BitVec 32 := Scalar.muli v11 c1_i32_441
  let v578 : BitVec 32 := Scalar.addi v576 v577
  v578.toNat
def k0_dev33 (d0 : Dev nD) : Nat :=
  let c0_i32_458 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_457 : BitVec 32 := 4#32
  let v598 : BitVec 32 := Scalar.muli v2 c4_i32_457
  let v599 : BitVec 32 := Scalar.addi c0_i32_458 v598
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_459 : BitVec 32 := 2#32
  let v600 : BitVec 32 := Scalar.muli v5 c2_i32_459
  let v601 : BitVec 32 := Scalar.addi v599 v600
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_460 : BitVec 32 := 1#32
  let v602 : BitVec 32 := Scalar.muli v11 c1_i32_460
  let v603 : BitVec 32 := Scalar.addi v601 v602
  v603.toNat
def k0_dev34 (d0 : Dev nD) : Nat :=
  let c0_i32_477 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_476 : BitVec 32 := 4#32
  let v623 : BitVec 32 := Scalar.muli v2 c4_i32_476
  let v624 : BitVec 32 := Scalar.addi c0_i32_477 v623
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_478 : BitVec 32 := 2#32
  let v625 : BitVec 32 := Scalar.muli v5 c2_i32_478
  let v626 : BitVec 32 := Scalar.addi v624 v625
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_479 : BitVec 32 := 1#32
  let v627 : BitVec 32 := Scalar.muli v11 c1_i32_479
  let v628 : BitVec 32 := Scalar.addi v626 v627
  v628.toNat
def k0_dev35 (d0 : Dev nD) : Nat :=
  let c0_i32_496 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_495 : BitVec 32 := 4#32
  let v648 : BitVec 32 := Scalar.muli v2 c4_i32_495
  let v649 : BitVec 32 := Scalar.addi c0_i32_496 v648
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_497 : BitVec 32 := 2#32
  let v650 : BitVec 32 := Scalar.muli v5 c2_i32_497
  let v651 : BitVec 32 := Scalar.addi v649 v650
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_498 : BitVec 32 := 1#32
  let v652 : BitVec 32 := Scalar.muli v11 c1_i32_498
  let v653 : BitVec 32 := Scalar.addi v651 v652
  v653.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x512 : Shape := ⟨2, ![4096, 512]⟩
abbrev S2x2048x512 : Shape := ⟨3, ![2, 2048, 512]⟩
abbrev S_ : Shape := ⟨0, ![]⟩
abbrev S2048x512 : Shape := ⟨2, ![2048, 512]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S2x2048x512, .f32⟩
  | .hbm, ⟨2, _⟩ => ⟨S_, .f32⟩
  | .hbm, ⟨3, _⟩ => ⟨S2048x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Handshake.lean ====
/-
A semaphore on which several devices announce themselves, and which its owner waits on in more than one step.

Each announcement `d` raises the counter by `amt d` units in one signal and leaves a payload `pay d` for the owner. The
owner waits for `k₁` units, later for `k₂` more, and so on. A wait hands over the payloads of every announcement made so
far; what the owner learns is that the announcements it has collected cover the units it has waited for. So when the units
it waited for cannot be reached without announcement `d`, the payload of `d` is among what it was handed.
-/
module

public import Idealize.ShloMosaic.Lib.Rounds
public import Idealize.ShloMosaic.Lib.Tactic

@[expose] public section

noncomputable section

namespace Cert.Handshake

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Ix : Type} [DecidableEq Ix] {U : Type} [URA U]

local notation "𝕄" => MT nD τ sig Ix Val ℕ U ℕ

variable {D : Type} [DecidableEq D] [Fintype D]
variable (E : Emb (URounds (GSem nD τ sig) D) (MT nD τ sig Ix Val ℕ U ℕ))
variable (amt : D → ℕ) (pay : D → sProp (MT nD τ sig Ix Val ℕ U ℕ))

/-- While the semaphore is in use: its counter, the announcements not yet collected (`A`, with their payloads), those
    collected (`T`), and the units consumed. -/
def live (g : GSem nD τ sig) : sProp 𝕄 :=
  iprop(∃ (v : ℕ) (A T : Finset D) (m : ℕ), semVal g v ∗ roundAuth E g 0 T m
    ∗ ⌜Disjoint A T ∧ v + m = ∑ d ∈ A ∪ T, amt d⌝
    ∗ bigSep (A ∪ T) (fun d => dutyTok E g 0 d) ∗ bigSep A pay)

/-- After the owner has taken the counter back: its position and every announcement's token, for good. -/
def done (g : GSem nD τ sig) : sProp 𝕄 :=
  iprop((∃ (T : Finset D) (m : ℕ), atPos E g 0 T m) ∗ bigSep Finset.univ (fun d : D => dutyTok E g 0 d))

def bodyOf (g : GSem nD τ sig) : sProp 𝕄 := iprop(live E amt pay g ∨ done E g)

instance bodyOf_storable [E.LandsIn (upEmb : UEmb _ (MT nD τ sig Ix Val ℕ U ℕ))]
    [∀ d, BI.Storable (upEmb : UEmb _ (MT nD τ sig Ix Val ℕ U ℕ)) (pay d)] (g : GSem nD τ sig) : BI.Storable (upEmb : UEmb _ 𝕄) (bodyOf E amt pay g) := by
  unfold bodyOf live done; infer_instance

/-- The semaphore's invariant, at the name `κ`. -/
def shared (κ : ℕ) (g : GSem nD τ sig) : sProp 𝕄 := inv κ (bodyOf E amt pay g)

instance shared_persistent (κ : ℕ) (g : GSem nD τ sig) : BI.Persistent (shared E amt pay κ g) := by
  unfold shared; infer_instance

/-- At launch: the counter at zero and the record of nothing consumed make the invariant's body. -/
theorem bodyOf_intro (g : GSem nD τ sig) : iprop(semVal g 0 ∗ roundAuth E g 0 ∅ 0) ⊢ bodyOf E amt pay g := by
  unfold bodyOf live
  iintro ⟨Hv, Ha⟩
  ileft
  iexists 0; iexists ∅; iexists ∅; iexists 0
  isplitl [Hv]; · iexact Hv
  isplitl [Ha]; · iexact Ha
  isplitr; · ipureintro; exact ⟨Finset.disjoint_empty_left _, by simp⟩
  rw [Finset.union_empty, bigSep_empty, bigSep_empty]
  isplitr <;> iempintro

/-- A separating conjunction over a set, one member named; -/
theorem bigSep_at {I : Type} [DecidableEq I] {M : Type} [URA M] {S : Finset I} {i : I} (h : i ∈ S) (Φ : I → sProp M) :
    bigSep S Φ = iprop(Φ i ∗ bigSep (S.erase i) Φ) := bigSep_erase h

/-- and over a set with one member more. -/
theorem bigSep_put {I : Type} [DecidableEq I] {M : Type} [URA M] {S : Finset I} {i : I} (h : i ∉ S) (Φ : I → sProp M) :
    bigSep (insert i S) Φ = iprop(Φ i ∗ bigSep S Φ) := bigSep_insert h

/-- An announcement's token shows it has not been made. -/
theorem tok_not_mem (g : GSem nD τ sig) (S : Finset D) (d : D) (hd : d ∈ S) :
    iprop(bigSep S (fun d => dutyTok E g 0 d) ∗ dutyTok E g 0 d) ⊢ (False : sProp 𝕄) := by
  rw [bigSep_at hd]
  iintro ⟨⟨H, -⟩, Ht⟩
  iapply (dutyTok_dutyTok_false E)
  isplitl [H] <;> iassumption

/-- ANNOUNCING: a signal of `amt d` units, holding the announcement's token, leaves its payload. -/
theorem announce (κ : ℕ) (g : GSem nD τ sig) (d : D) :
    iprop(shared E amt pay κ g ∗ dutyTok E g 0 d ∗ pay d) ⊢ (landingUpdate g (amt d) iprop(emp) : sProp 𝕄) := by
  rw [landingUpdate_def]
  iintro H -
  unfold shared
  icases H with ⟨Hg, Ht, Hp⟩
  imod (inv_acc (Set.mem_univ κ)) $$ Hg with ⟨Hb, Hclose⟩
  unfold bodyOf
  icases Hb with (Hl | Hd)
  rotate_left
  · unfold done
    icases Hd with ⟨-, Hts⟩
    iexfalso; iapply (tok_not_mem E g Finset.univ d (Finset.mem_univ d)); isplitl [Hts] <;> iassumption
  unfold live
  icases Hl with ⟨%v, %A, %T, %m, Hv, Ha, %hAT, Hts, Hps⟩
  obtain ⟨hdj, hv⟩ := hAT
  by_cases hd : d ∈ A ∪ T
  · iexfalso; iapply (tok_not_mem E g (A ∪ T) d hd); isplitl [Hts] <;> iassumption
  have hdA : d ∉ A := fun h => hd (Finset.mem_union_left _ h)
  have hdT : d ∉ T := fun h => hd (Finset.mem_union_right _ h)
  imodintro
  rw [raiseSpec_apply]
  iexists v
  isplitl [Hv]; · iexact Hv
  iintro Hv
  ihave Hc := Hclose $$ [Hv Ha Ht Hp Hts Hps]
  · ileft
    iexists (v + amt d); iexists (insert d A); iexists T; iexists m
    isplitl [Hv]; · iexact Hv
    isplitl [Ha]; · iexact Ha
    isplitr
    · ipureintro
      refine ⟨Finset.disjoint_insert_left.mpr ⟨hdT, hdj⟩, ?_⟩
      rw [Finset.insert_union, Finset.sum_insert hd, ← hv]; omega
    rw [Finset.insert_union, bigSep_put hd, bigSep_put hdA]
    isplitl [Ht Hts]
    · isplitl [Ht] <;> iassumption
    isplitl [Hp] <;> iassumption
  imod Hc
  imodintro
  iempintro

/-- WAITING for `k` more units: the owner has then collected announcements that cover what it has consumed, and is handed
    the payloads of those it had not collected before. -/
theorem collect (κ : ℕ) (g : GSem nD τ sig) (k : ℕ) (T : Finset D) (m : ℕ) (K' : PUnit → sProp 𝕄) :
    iprop(shared E amt pay κ g ∗ atPos E g 0 T m
        ∗ ((∃ S : Finset D, ⌜T ⊆ S ∧ m + k ≤ ∑ d ∈ S, amt d⌝ ∗ atPos E g 0 S (m + k) ∗ bigSep (S \ T) pay) -∗ K' ⟨⟩))
      ⊢ atomically frame Set.univ (lowerSpec g k) K' := by
  iintro ⟨Hg, Hat, Hk⟩
  unfold shared
  imod (inv_acc (Set.mem_univ κ)) $$ Hg with ⟨Hb, Hclose⟩
  unfold bodyOf
  icases Hb with (Hl | Hd)
  rotate_left
  · unfold done
    icases Hd with ⟨⟨%T', %m', Hat'⟩, -⟩
    iexfalso; iapply (atPos_atPos_false E); isplitl [Hat] <;> iassumption
  unfold live
  icases Hl with ⟨%v, %A, %T', %m', Hv, Ha, %hAT, Hts, Hps⟩
  obtain ⟨hdj, hv⟩ := hAT
  ihave H := (persistent_entails_right (roundAuth_atPos_agree E)) $$ [Ha Hat]
  · isplitl [Ha] <;> iassumption
  icases H with ⟨%he, Ha, Hat⟩
  obtain ⟨-, rfl, rfl⟩ := he
  imodintro
  iapply lowerSpec_intro $$ Hv
  iintro %hle Hv
  imod (roundAuth_atPos_move E 0 (A ∪ T) (m + k) (Nat.le_refl 0)) $$ [Ha Hat] with ⟨Ha, Hat⟩
  · isplitl [Ha] <;> iassumption
  ihave Hc := Hclose $$ [Hv Ha Hts]
  · ileft
    iexists (v - k); iexists ∅; iexists (A ∪ T); iexists (m + k)
    isplitl [Hv]; · iexact Hv
    isplitl [Ha]; · iexact Ha
    rw [Finset.empty_union, bigSep_empty]
    isplitr
    · ipureintro; exact ⟨Finset.disjoint_empty_left _, by omega⟩
    isplitl [Hts]; · iexact Hts
    iempintro
  imod Hc
  imodintro
  iapply Hk
  iexists (A ∪ T)
  isplitr
  · ipureintro; exact ⟨Finset.subset_union_right, by omega⟩
  isplitl [Hat]; · iexact Hat
  rw [Finset.union_sdiff_cancel_right hdj]
  iexact Hps

/-- CLOSING: the owner that has collected every announcement and consumed every unit takes the counter back, at zero. -/
theorem close (κ : ℕ) (g : GSem nD τ sig) (m : ℕ) (hm : m = ∑ d, amt d) :
    iprop(shared E amt pay κ g ∗ atPos E g 0 Finset.univ m) ⊢ (iprop(|={Set.univ}=> semVal g 0) : sProp 𝕄) := by
  iintro ⟨Hg, Hat⟩
  unfold shared
  imod (inv_acc (Set.mem_univ κ)) $$ Hg with ⟨Hb, Hclose⟩
  unfold bodyOf
  icases Hb with (Hl | Hd)
  rotate_left
  · unfold done
    icases Hd with ⟨⟨%T', %m', Hat'⟩, -⟩
    iexfalso; iapply (atPos_atPos_false E); isplitl [Hat] <;> iassumption
  unfold live
  icases Hl with ⟨%v, %A, %T', %m', Hv, Ha, %hAT, Hts, Hps⟩
  obtain ⟨hdj, hv⟩ := hAT
  ihave H := (persistent_entails_right (roundAuth_atPos_agree E)) $$ [Ha Hat]
  · isplitl [Ha] <;> iassumption
  icases H with ⟨%he, Ha, Hat⟩
  obtain ⟨-, hT, hm'⟩ := he
  have hu : A ∪ T' = Finset.univ := by rw [← hT]; exact Finset.eq_univ_of_forall fun d => Finset.mem_union_right _ (Finset.mem_univ d)
  have hv0 : v = 0 := by rw [hu, ← hm, ← hm'] at hv; omega
  subst hv0
  rw [hu]
  ihave Hc := Hclose $$ [Hat Hts]
  · iright
    unfold done
    isplitl [Hat]
    · iexists Finset.univ; iexists m; iexact Hat
    iexact Hts
  imod Hc
  imodintro
  iexact Hv

end Cert.Handshake
-- ==== Proof.KernelIdealBase.lean ====
/-
The mesh, the transfers and the views of the all-reduce kernel.

Eight devices on a 2×2×2 mesh: device `4x + 2y + z`. Each device owns one QUARTER of the rows of its result
(rows `512 q … 512 q + 511`, `q = 2y + z`), cut in eight CHUNKS of 64 rows. Every remote copy of the kernel moves
one chunk, and is named here by a leg and a chunk number:

* leg `x`: chunk `r` of the device's own quarter of the input, to the device across the `x` axis;
* leg `y`, `z`: chunk `r` of the device's own quarter of the sum, to the device across that axis;
* leg `f`: a chunk of the sum that arrived by one of the other two legs, forwarded: chunks 0–3 of the quarter of the
  device across `z`, to the device across `y`; chunks 4–7 of the quarter of the device across `y`, to the device across `z`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Pipeline.ValueKit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The mesh -/

/-- The device across the `x` axis, -/
def xp (c : Dev nD) : Dev nD := ⟨(2 * ((c.val / 2) % 2) + (c.val % 2) + 4) - 4 * (c.val / 4), by have h : c.val < 8 := c.isLt; show _ < 8; omega⟩
/-- across the `y` axis, -/
def yp (c : Dev nD) : Dev nD := ⟨(4 * (c.val / 4) + (c.val % 2) + 2) - 2 * ((c.val / 2) % 2), by have h : c.val < 8 := c.isLt; show _ < 8; omega⟩
/-- and across the `z` axis. -/
def zp (c : Dev nD) : Dev nD := ⟨(4 * (c.val / 4) + 2 * ((c.val / 2) % 2) + 1) - (c.val % 2), by have h : c.val < 8 := c.isLt; show _ < 8; omega⟩

theorem xp_xp (c : Dev nD) : xp (xp c) = c := by revert c; decide
theorem yp_yp (c : Dev nD) : yp (yp c) = c := by revert c; decide
theorem zp_zp (c : Dev nD) : zp (zp c) = c := by revert c; decide

/-- The quarter of the rows a device owns. -/
def qd (c : Dev nD) : Fin 4 := ⟨c.val % 4, Nat.mod_lt _ (by decide)⟩

/-- The device that owns quarter `q` among those with `c`'s `x` coordinate. -/
def dv (c : Dev nD) (q : Fin 4) : Dev nD := ⟨4 * (c.val / 4) + q.val, by have h : c.val < 8 := c.isLt; show _ < 8; omega⟩

theorem dv_qd (c : Dev nD) : dv c (qd c) = c := by revert c; decide
theorem dv_yp (c : Dev nD) (q : Fin 4) : dv (yp c) q = dv c q := by revert c q; decide
theorem dv_zp (c : Dev nD) (q : Fin 4) : dv (zp c) q = dv c q := by revert c q; decide

/-! ## The transfers -/

/-- The kind of a remote copy. -/
inductive Leg | x | y | z | f
  deriving DecidableEq

instance : Fintype Leg := ⟨{.x, .y, .z, .f}, fun l => by cases l <;> decide⟩

/-- A remote copy: its leg and its chunk. -/
abbrev Tr : Type := Leg × Fin 8

/-- The device a copy goes to — and the one the copy of that name comes from. -/
def peer : Tr → Dev nD → Dev nD
  | (.x, _), c => xp c
  | (.y, _), c => yp c
  | (.z, _), c => zp c
  | (.f, r), c => if r.val < 4 then yp c else zp c

theorem peer_peer (t : Tr) (c : Dev nD) : peer t (peer t c) = c := by revert t c; decide

/-- The quarter of the rows a copy of the sum moves a chunk of (for leg `x`: the sender's own). -/
def tq : Tr → Dev nD → Fin 4
  | (.f, r), c => if r.val < 4 then qd (zp c) else qd (yp c)
  | (_, _), c => qd c

/-! ## The views -/

theorem inb_h (r : Fin 8) : ∀ a, (![64 * r.val, 0] : Fin 2 → Nat) a + S64x512.size a ≤ S512x512.size a := by
  have h := r.isLt
  intro a
  match a with
  | ⟨0, _⟩ => show 64 * r.val + 64 ≤ 512; omega
  | ⟨1, _⟩ => exact Nat.le_refl 512

theorem inb_o (q : Fin 4) (r : Fin 8) : ∀ a, (![512 * q.val + 64 * r.val, 0] : Fin 2 → Nat) a + S64x512.size a ≤ S2048x512.size a := by
  have h := r.isLt; have h' := q.isLt
  intro a
  match a with
  | ⟨0, _⟩ => show 512 * q.val + 64 * r.val + 64 ≤ 2048; omega
  | ⟨1, _⟩ => exact Nat.le_refl 512

/-- The rectangle of chunk `r` in a 512-row buffer, -/
abbrev hR (r : Fin 8) : Rect S512x512 := Rect.unit (s := S512x512) ![64 * r.val, 0] S64x512.size (inb_h r)
/-- and of chunk `r` of quarter `q` in the result. -/
abbrev oR (q : Fin 4) (r : Fin 8) : Rect S2048x512 := Rect.unit (s := S2048x512) ![512 * q.val + 64 * r.val, 0] S64x512.size (inb_o q r)

/-- The result's buffer, the device's own quarter of the input, and the quarter that arrives across `x`. -/
abbrev oM : Memref sig .tc .vmem S2048x512 .f32 := Memref.whole cc0_stg0_0
abbrev mM : Memref sig .tc .vmem S512x512 .f32 := Memref.whole cc0_scratch0
abbrev vM : Memref sig .tc .vmem S512x512 .f32 := Memref.whole cc0_scratch1

abbrev oV (q : Fin 4) (r : Fin 8) : Memref sig .tc .vmem S64x512 .f32 := oM.slice (oR q r) (fun _ => rfl)
abbrev mV (r : Fin 8) : Memref sig .tc .vmem S64x512 .f32 := mM.slice (hR r) (fun _ => rfl)
abbrev vV (r : Fin 8) : Memref sig .tc .vmem S64x512 .f32 := vM.slice (hR r) (fun _ => rfl)

/-- What a copy reads on the device that issues it, -/
def srcV : Tr → Dev nD → Memref sig .tc .vmem S64x512 .f32
  | (.x, r), _ => mV r
  | (.y, r), c => oV (qd c) r
  | (.z, r), c => oV (qd c) r
  | (.f, r), c => oV (tq (.f, r) c) r
/-- and what it writes on the device it goes to. -/
def dstV : Tr → Dev nD → Memref sig .tc .vmem S64x512 .f32
  | (.x, r), _ => vV r
  | (.y, r), c => oV (qd c) r
  | (.z, r), c => oV (qd c) r
  | (.f, r), c => oV (tq (.f, r) c) r

/-! ## The semaphores -/

/-- The runtime's barrier semaphore. -/
abbrev barS : Sem sig := (SemArray.scalar (sig.barrier 0 rfl) : Sems sig S_).sem

/-- The semaphore of the first, local copy. -/
abbrev loadS : DmaSem sig := (cc0_scratch2 : DmaSems sig S_).sem

/-- The number of the semaphore a copy signals on the device that issues it, -/
def sendId : Tr → Nat
  | (.x, r) => 2 + r.val
  | (.y, r) => 18 + r.val
  | (.z, r) => 34 + r.val
  | (.f, r) => if r.val < 4 then 50 + r.val else 54 + r.val
/-- and of the one it signals on the device it goes to. -/
def recvId : Tr → Nat
  | (.x, r) => 10 + r.val
  | (.y, r) => 26 + r.val
  | (.z, r) => 42 + r.val
  | (.f, r) => if r.val < 4 then 54 + r.val else 58 + r.val

theorem sendId_lt : ∀ t : Tr, sendId t < 66 := by decide
theorem recvId_lt : ∀ t : Tr, recvId t < 66 := by decide

def sendS (t : Tr) : DmaSem sig := (⟨sendId t, sendId_lt t⟩ : Fin 66)
def recvS (t : Tr) : DmaSem sig := (⟨recvId t, recvId_lt t⟩ : Fin 66)

/-- The copies' semaphores of one device: the local copy's, and two for each remote copy (`false`: of its issue,
    `true`: of its arrival). -/
abbrev Ck : Type := Option (Bool × Tr)

def csem : Ck → DmaSem sig
  | none => loadS
  | some (false, t) => sendS t
  | some (true, t) => recvS t

/-- The semaphore's name read back from its number. -/
def cdec (n : Nat) : Ck :=
  if n < 2 then none
  else if n < 10 then some (false, .x, ⟨(n - 2) % 8, Nat.mod_lt _ (by decide)⟩)
  else if n < 18 then some (true, .x, ⟨(n - 10) % 8, Nat.mod_lt _ (by decide)⟩)
  else if n < 26 then some (false, .y, ⟨(n - 18) % 8, Nat.mod_lt _ (by decide)⟩)
  else if n < 34 then some (true, .y, ⟨(n - 26) % 8, Nat.mod_lt _ (by decide)⟩)
  else if n < 42 then some (false, .z, ⟨(n - 34) % 8, Nat.mod_lt _ (by decide)⟩)
  else if n < 50 then some (true, .z, ⟨(n - 42) % 8, Nat.mod_lt _ (by decide)⟩)
  else if n < 54 then some (false, .f, ⟨(n - 50) % 8, Nat.mod_lt _ (by decide)⟩)
  else if n < 58 then some (true, .f, ⟨(n - 54) % 8, Nat.mod_lt _ (by decide)⟩)
  else if n < 62 then some (false, .f, ⟨(n - 54) % 8, Nat.mod_lt _ (by decide)⟩)
  else some (true, .f, ⟨(n - 58) % 8, Nat.mod_lt _ (by decide)⟩)

theorem csem_val_pos : ∀ k : Ck, 0 < (show Fin 66 from csem k).val := by decide
theorem cdec_csem : ∀ k : Ck, cdec (show Fin 66 from csem k).val = k := by decide

theorem csem_injective : Function.Injective csem := fun a b h => by
  rw [← cdec_csem a, ← cdec_csem b, h]

/-- A copy's semaphore on device `c`, and the barrier's. -/
abbrev kcell (c : Dev nD) (k : Ck) : GSem nD τ sig := ((c : Thread nD τ), .dma (csem k))
abbrev barCell (c : Dev nD) : GSem nD τ sig := ((c : Thread nD τ), .reg barS)
abbrev sendCell (c : Dev nD) (t : Tr) : GSem nD τ sig := kcell c (some (false, t))
abbrev recvCell (c : Dev nD) (t : Tr) : GSem nD τ sig := kcell c (some (true, t))

/-- What a chunk's copy, and the local copy, credit. -/
abbrev N : ℕ := (oV 0 0).view.dmaCredit
abbrev NL : ℕ := mM.view.dmaCredit
theorem N_pos : 0 < N := View.dmaCredit_pos _ (by decide)
theorem NL_pos : 0 < NL := View.dmaCredit_pos _ (by decide)

/-- What a copy's semaphore is credited in all. -/
def credit : Ck → ℕ
  | none => NL
  | some _ => N
theorem credit_pos (k : Ck) : 0 < credit k := by
  cases k with
  | none => exact NL_pos
  | some _ => exact N_pos

/-! ## The contents -/

variable {F : FTy → Type} [FloatOps F]
variable (m : (ℓ : Loc nD τ sig) → Buf (Elt F) ℓ)

/-- Device `c`'s own quarter of its input, -/
def xq (c : Dev nD) : S512x512.Idx → Elt F .f32 :=
  fun j => (show S2048x512.Idx → Elt F .f32 from m ((c : Thread nD τ).loc main_arg0))
    ((Rect.unit (s := S2048x512) (k0_off1 c) S512x512.size (k0_off1_inb c)).emb j)

/-- chunk `r` of it, -/
def xch (c : Dev nD) (r : Fin 8) : S64x512.Idx → Elt F .f32 := fun j => xq m c ((hR r).emb j)

/-- and chunk `r` of quarter `q` of the sum, as the devices with `c`'s `x` coordinate compute it. -/
def cv (c : Dev nD) (q : Fin 4) (r : Fin 8) : S64x512.Idx → Elt F .f32 :=
  k0_pay1 (xch m (dv c q) r) (xch m (xp (dv c q)) r)

/-- What a copy moves, issued by device `c`. -/
def tval (t : Tr) (c : Dev nD) : S64x512.Idx → Elt F .f32 :=
  match t with
  | (.x, r) => xch m c r
  | (l, r) => cv m c (tq (l, r) c) r

/-- The whole sum, as the devices with `c`'s `x` coordinate compute it. -/
def outF (c : Dev nD) : S2048x512.Idx → Elt F .f32 := fun i =>
  cv m c ⟨(i 0).val / 512 % 4, Nat.mod_lt _ (by decide)⟩ ⟨(i 0).val / 64 % 8, Nat.mod_lt _ (by decide)⟩
    (fun a => match a with
      | ⟨0, _⟩ => ⟨(i 0).val % 64, Nat.mod_lt _ (by decide)⟩
      | ⟨1, _⟩ => ⟨(i 1).val, (i 1).isLt⟩)

omit [FloatOps F] in
theorem oR_emb_0 (q : Fin 4) (r : Fin 8) (j : S64x512.Idx) : ((oR q r).emb j 0).val = 512 * q.val + 64 * r.val + (j 0).val := by
  rw [ValueKit.rect_emb_unit_val]; rfl
omit [FloatOps F] in
theorem oR_emb_1 (q : Fin 4) (r : Fin 8) (j : S64x512.Idx) : ((oR q r).emb j 1).val = (j 1).val := by
  rw [ValueKit.rect_emb_unit_val]; exact Nat.zero_add _
omit [FloatOps F] in
theorem hR_emb_0 (r : Fin 8) (j : S64x512.Idx) : ((hR r).emb j 0).val = 64 * r.val + (j 0).val := by
  rw [ValueKit.rect_emb_unit_val]; rfl
omit [FloatOps F] in
theorem hR_emb_1 (r : Fin 8) (j : S64x512.Idx) : ((hR r).emb j 1).val = (j 1).val := by
  rw [ValueKit.rect_emb_unit_val]; exact Nat.zero_add _

/-- The whole sum on a chunk is the chunk's. -/
theorem outF_emb (c : Dev nD) (q : Fin 4) (r : Fin 8) (j : S64x512.Idx) : outF m c ((oR q r).emb j) = cv m c q r j := by
  have h0 := oR_emb_0 q r j
  have h1 := oR_emb_1 q r j
  have hj : (j 0).val < 64 := (j 0).isLt
  have hq := q.isLt; have hr := r.isLt
  unfold outF
  have eq : (⟨((oR q r).emb j 0).val / 512 % 4, Nat.mod_lt _ (by decide)⟩ : Fin 4) = q := Fin.ext (by simp only []; omega)
  have er : (⟨((oR q r).emb j 0).val / 64 % 8, Nat.mod_lt _ (by decide)⟩ : Fin 8) = r := Fin.ext (by simp only []; omega)
  rw [eq, er]
  congr 1
  funext a
  match a with
  | ⟨0, _⟩ => exact Fin.ext (by simp only []; show ((oR q r).emb j 0).val % 64 = (j 0).val; omega)
  | ⟨1, _⟩ => exact Fin.ext h1

/-- The quarters' rectangles cut the result: no two meet, -/
theorem oR_disjoint (p p' : Fin 4 × Fin 8) (h : p ≠ p') : Disjoint (oR p.1 p.2).set (oR p'.1 p'.2).set := by
  rw [Finset.disjoint_left]
  intro i hi hi'
  rw [← Rect.map_emb_univ, Finset.mem_map] at hi hi'
  obtain ⟨j, -, rfl⟩ := hi
  obtain ⟨j', -, e⟩ := hi'
  have h0 := oR_emb_0 p.1 p.2 j
  have h0' := oR_emb_0 p'.1 p'.2 j'
  rw [e] at h0'
  have hj : (j 0).val < 64 := (j 0).isLt
  have hj' : (j' 0).val < 64 := (j' 0).isLt
  have := p.2.isLt; have := p'.2.isLt
  exact h (Prod.ext (Fin.ext (by omega)) (Fin.ext (by omega)))

/-- and they cover it. -/
theorem oR_cover : (Finset.univ : Finset (Fin 4 × Fin 8)).biUnion (fun p => (oR p.1 p.2).set) = Finset.univ := by
  ext i
  simp only [Finset.mem_biUnion, Finset.mem_univ, true_and, iff_true]
  have hi : (i 0).val < 2048 := (i 0).isLt
  refine ⟨(⟨(i 0).val / 512, by omega⟩, ⟨(i 0).val / 64 % 8, Nat.mod_lt _ (by decide)⟩), ?_⟩
  rw [← Rect.map_emb_univ, Finset.mem_map]
  refine ⟨(fun a => match a with
      | ⟨0, _⟩ => ⟨(i 0).val % 64, Nat.mod_lt _ (by decide)⟩
      | ⟨1, _⟩ => ⟨(i 1).val, (i 1).isLt⟩), Finset.mem_univ _, ?_⟩
  funext a
  match a with
  | ⟨0, _⟩ =>
    refine Fin.ext ((oR_emb_0 _ _ _).trans ?_)
    show 512 * ((i 0).val / 512) + 64 * ((i 0).val / 64 % 8) + (i 0).val % 64 = (i 0).val
    omega
  | ⟨1, _⟩ => exact Fin.ext (oR_emb_1 _ _ _)

/-- The chunks' rectangles cut a 512-row buffer likewise. -/
theorem hR_disjoint (r r' : Fin 8) (h : r ≠ r') : Disjoint (hR r).set (hR r').set := by
  rw [Finset.disjoint_left]
  intro i hi hi'
  rw [← Rect.map_emb_univ, Finset.mem_map] at hi hi'
  obtain ⟨j, -, rfl⟩ := hi
  obtain ⟨j', -, e⟩ := hi'
  have h0 := hR_emb_0 r j
  have h0' := hR_emb_0 r' j'
  rw [e] at h0'
  have hj : (j 0).val < 64 := (j 0).isLt
  have hj' : (j' 0).val < 64 := (j' 0).isLt
  exact h (Fin.ext (by omega))

theorem hR_cover : (Finset.univ : Finset (Fin 8)).biUnion (fun r => (hR r).set) = Finset.univ := by
  ext i
  simp only [Finset.mem_biUnion, Finset.mem_univ, true_and, iff_true]
  have hi : (i 0).val < 512 := (i 0).isLt
  refine ⟨⟨(i 0).val / 64, by omega⟩, ?_⟩
  rw [← Rect.map_emb_univ, Finset.mem_map]
  refine ⟨(fun a => match a with
      | ⟨0, _⟩ => ⟨(i 0).val % 64, Nat.mod_lt _ (by decide)⟩
      | ⟨1, _⟩ => ⟨(i 1).val, (i 1).isLt⟩), Finset.mem_univ _, ?_⟩
  funext a
  match a with
  | ⟨0, _⟩ =>
    refine Fin.ext ((hR_emb_0 _ _).trans ?_)
    show 64 * ((i 0).val / 64) + (i 0).val % 64 = (i 0).val
    omega
  | ⟨1, _⟩ => exact Fin.ext (hR_emb_1 _ _)

end Cert.KernelIdealProof
-- ==== Proof.KernelIdealProto.lean ====
/-
The protocol of the all-reduce kernel: what each semaphore hands to the device that waits on it, and what a device holds of
each remote copy while the kernel runs.

Every copy's semaphores take part in one round with one contribution. The semaphore of a copy's ISSUE gives the issuer back
the share of the chunk it lent; the semaphore of its ARRIVAL gives the receiver the chunk's place, holding the chunk. The
barrier semaphore carries three announcements, one from the device across each axis, each saying: the places you are going
to write on me are yours.
-/
module

public import proofs.«01_k».proof.Proof.KernelIdealBase
public import proofs.«01_k».proof.Proof.Handshake

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Handshake (bigSep_at bigSep_put)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## What the copies' semaphores hand over -/

/-- The share of a chunk its copy borrows: a chunk of the input is also read by the sum, a chunk of the sum is copied twice. -/
def tshare : Tr → PosShare TreeShare
  | (.x, _) => fullShare.right
  | (.y, _) => fullShare.left
  | (.z, _) => fullShare.right
  | (.f, _) => fullShare

/-- The chunk a copy borrows on the issuer, -/
def srcPts (t : Tr) (c : Dev nD) : sProp 𝕄 := ownsTc c (srcV t c) (tshare t) (tval m t c)
/-- and the chunk it leaves on the receiver `c`. -/
def recvPts (t : Tr) (c : Dev nD) : sProp 𝕄 := ownsTc c (dstV t (peer t c)) fullShare (tval m t (peer t c))
omit [FloatOps F] in
/-- The place, on the receiver, that `c`'s copy writes. -/
def dstAny (t : Tr) (c : Dev nD) : sProp 𝕄 := iprop(∃ X : S64x512.Idx → Elt F .f32, ownsTc (peer t c) (dstV t c) fullShare X)

/-- The device's own quarter of its input, in the argument's buffer. -/
abbrev aV (c : Dev nD) : Memref sig .tc .hbm S512x512 .f32 :=
  (Memref.whole main_arg0).slice (Rect.unit (s := S2048x512) (k0_off1 c) S512x512.size (k0_off1_inb c)) (fun _ => rfl)

def argPts (c : Dev nD) : sProp 𝕄 :=
  (aV c).view.loc (c : Thread nD τ) ↦[(aV c).view.set]{fullShare} (m ((c : Thread nD τ).loc main_arg0))

/-- What a copy's semaphore hands to the device it is on. -/
def ckPay (c : Dev nD) : Ck → sProp 𝕄
  | none => iprop(ownsTc c mM fullShare (xq m c) ∗ argPts m c)
  | some (false, t) => srcPts m t c
  | some (true, t) => recvPts m t c

instance srcPts_storable (t : Tr) (c : Dev nD) : BI.Storable (upEmb : UEmb _ 𝕄) (srcPts m t c) := by unfold srcPts; infer_instance
instance recvPts_storable (t : Tr) (c : Dev nD) : BI.Storable (upEmb : UEmb _ 𝕄) (recvPts m t c) := by unfold recvPts; infer_instance
omit [FloatOps F] in
instance dstAny_storable (t : Tr) (c : Dev nD) : BI.Storable (upEmb : UEmb _ 𝕄) (dstAny (F := F) t c) := by unfold dstAny; infer_instance
omit [FloatOps F] in
instance argPts_storable (c : Dev nD) : BI.Storable (upEmb : UEmb _ 𝕄) (argPts m c) := by unfold argPts; infer_instance
instance ckPay_storable (c : Dev nD) (k : Ck) : BI.Storable (upEmb : UEmb _ 𝕄) (ckPay m c k) := by
  rcases k with _ | ⟨_ | _, t⟩ <;> (unfold ckPay; infer_instance)

/-- The copies' semaphore a semaphore is, if any. -/
def ckOf : SemLoc sig → Option Ck
  | .reg _ => none
  | .dma q => if 0 < (show Fin 66 from q).val then some (cdec (show Fin 66 from q).val) else none

theorem ckOf_csem (k : Ck) : ckOf (.dma (csem k)) = some k := by
  show (if 0 < (show Fin 66 from csem k).val then some (cdec (show Fin 66 from csem k).val) else none) = some k
  rw [if_pos (csem_val_pos k), cdec_csem]

/-- One round, round 0, of one contribution. -/
def sched : Rounds.Schedule (GSem nD τ sig) (Fin 3) 𝕄 where
  duties g r := if r = 0 ∧ g.1.2 = .tc ∧ (ckOf g.2).isSome then {0} else ∅
  unitless _ := False
  amount g _ _ := match ckOf g.2 with | some k => credit k | none => 1
  payload g _ _ := match ckOf g.2 with | some k => ckPay m g.1.1 k | none => iprop(emp)
  amount_pos g _ _ _ := by
    show 0 < (match ckOf g.2 with | some k => credit k | none => 1)
    split
    · exact credit_pos _
    · exact Nat.one_pos

instance sched_storable (g : GSem nD τ sig) (r : ℕ) (d : Fin 3) : BI.Storable (upEmb : UEmb _ 𝕄) ((sched (F := F) m).payload g r d) := by
  show BI.Storable upEmb (match ckOf g.2 with | some k => ckPay m g.1.1 k | none => iprop(emp))
  split <;> infer_instance

section Sched
variable (c : Dev nD) (k : Ck)

theorem duties_k : (sched (F := F) m).duties (kcell c k) 0 = {0} :=
  if_pos ⟨rfl, rfl, by rw [show (kcell c k).2 = .dma (csem k) from rfl, ckOf_csem]; rfl⟩
theorem duties_later (g : GSem nD τ sig) : ∀ r, 1 ≤ r → (sched (F := F) m).duties g r = ∅ :=
  fun r hr => if_neg fun h => by omega
theorem amount_k (d : Fin 3) : (sched (F := F) m).amount (kcell c k) 0 d = credit k := by
  show (match ckOf (.dma (csem k)) with | some k => credit k | none => 1) = credit k
  rw [ckOf_csem]
theorem payload_k (d : Fin 3) : (sched (F := F) m).payload (kcell c k) 0 d = ckPay m c k := by
  show (match ckOf (.dma (csem k)) with | some k => ckPay m c k | none => iprop(emp)) = ckPay m c k
  rw [ckOf_csem]
theorem expect_k : (sched (F := F) m).expect (kcell c k) 0 = credit k := by
  unfold Schedule.expect Schedule.amountOf; rw [duties_k, Finset.sum_singleton, amount_k]
/-- What a wait for the whole round hands over. -/
theorem rest_k : bigSep ((sched (F := F) m).duties (kcell c k) 0 \ ∅) (fun d => (sched (F := F) m).payload (kcell c k) 0 d) = ckPay m c k := by
  rw [Finset.sdiff_empty, duties_k, bigSep_singleton, payload_k]
end Sched

/-! ## The barrier's announcements -/

/-- Who announces a copy's place: the device across `x`, `y` or `z`. -/
def ann : Tr → Fin 3
  | (.x, _) => 0
  | (.y, _) => 1
  | (.z, _) => 2
  | (.f, r) => if r.val < 4 then 1 else 2

/-- Units: three from the device across `x`, one from each of the others. -/
def bamt : Fin 3 → ℕ := ![3, 1, 1]

/-- What an announcement hands to `c`: the places of `c`'s copies to the device that makes it. -/
def bpay (c : Dev nD) (d : Fin 3) : sProp 𝕄 := bigSep (Finset.univ.filter fun t : Tr => ann t = d) fun t => dstAny (F := F) t c

omit [FloatOps F] in
instance bpay_storable (c : Dev nD) (d : Fin 3) : BI.Storable (upEmb : UEmb _ 𝕄) (bpay (F := F) c d) := by unfold bpay; infer_instance

/-- The barrier's invariant on device `c`. -/
abbrev barInv (κ : ℕ) (c : Dev nD) : sProp 𝕄 := Cert.Handshake.shared (ER (F := F)) bamt (bpay (F := F) c) κ (barCell c)

/-! ## What each device owes, and the order of waiting -/

/-- The copies not yet issued under the record `h`: their arrivals are owed to the devices they go to. -/
def owedT (c : Dev nD) (h : Tr → ℕ) : CellTallies nD τ sig Unit :=
  ∑ t ∈ Finset.univ.filter (fun t : Tr => h t = 0), tallyAt (recvCell (peer t c) t) () N

def L (g : GSem nD τ sig) : Finset Unit := if g.1.2 = .tc then {()} else ∅

/-- The order of waiting: the barrier's waits, then the arrivals of leg `x`, of legs `y` and `z`, of leg `f`. -/
def legLv : Leg → ℕ | .x => 2 | .y => 3 | .z => 3 | .f => 4
def ckLv : Ck → ℕ
  | none => 0
  | some (false, _) => 0
  | some (true, t) => legLv t.1
def smLv (sm : SemLoc sig) : ℕ := if sm = .reg barS then 1 else match ckOf sm with | some k => ckLv k | none => 0
def lv (g : GSem nD τ sig) (_ : Unit) : ℕ := smLv g.2

theorem L_of_ne (g : GSem nD τ sig) (h : g.1.2 ≠ .tc) : L g = ∅ := if_neg h
theorem L_tc (c : Dev nD) (sm : SemLoc sig) : L ((c : Thread nD τ), sm) = {()} := if_pos rfl
theorem lv_bar : smLv (.reg barS) = 1 := if_pos rfl
theorem lv_k (k : Ck) : smLv (.dma (csem k)) = ckLv k := by
  unfold smLv; rw [if_neg (fun h => by cases h), ckOf_csem]

theorem tallyAt_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

theorem owedT_pos {c : Dev nD} {h : Tr → ℕ} {g : GSem nD τ sig} {u : Unit} (hp : 0 < owedT c h g u) :
    ∃ t, h t = 0 ∧ g = recvCell (peer t c) t := by
  unfold owedT at hp
  rw [Finset.sum_apply, Finsupp.finset_sum_apply] at hp
  obtain ⟨t, ht, hpt⟩ := Finset.exists_ne_zero_of_sum_ne_zero (Nat.pos_iff_ne_zero.mp hp)
  exact ⟨t, (Finset.mem_filter.mp ht).2, tallyAt_pos (Nat.pos_of_ne_zero hpt)⟩

/-- Issuing one more copy pays its arrival. -/
theorem owedT_issue (c : Dev nD) (h : Tr → ℕ) (t : Tr) (h0 : h t = 0) :
    owedT c h = owedT c (Function.update h t 1) + tallyAt (recvCell (peer t c) t) () N := by
  unfold owedT
  have e : (Finset.univ.filter fun t' : Tr => Function.update h t 1 t' = 0) = (Finset.univ.filter fun t' : Tr => h t' = 0).erase t := by
    ext t'
    simp only [Finset.mem_filter, Finset.mem_univ, true_and, Finset.mem_erase]
    by_cases ht : t' = t
    · subst ht; simp
    · simp [ht]
  rw [e, add_comm]
  exact (Finset.add_sum_erase _ (fun t' => (tallyAt (recvCell (peer t' c) t') () N : CellTallies nD τ sig Unit)) (by simp [h0])).symm

/-- Recording anything else of a copy already issued changes nothing. -/
theorem owedT_keep (c : Dev nD) (h : Tr → ℕ) (t : Tr) (s : ℕ) (h0 : h t ≠ 0) (hs : s ≠ 0) :
    owedT c (Function.update h t s) = owedT c h := by
  unfold owedT
  congr 1
  ext t'
  simp only [Finset.mem_filter, Finset.mem_univ, true_and]
  by_cases ht : t' = t
  · subst ht; simp [h0, hs]
  · simp [ht]

omit [FloatOps F] in
/-- A wait on a semaphore below everything owed. -/
theorem mayWait (c : Dev nD) (sm : SemLoc sig) (O : CellTallies nD τ sig Unit)
    (hO : ∀ g u, 0 < O g u → ∃ (d : Dev nD) (sm' : SemLoc sig), g = ((d : Thread nD τ), sm') ∧ smLv sm < smLv sm') :
    (levAts L lv : sProp 𝕄) ⊢ MayWait (c : Thread nD τ) sm () O :=
  MayOwe.of_cut (L := L) (lev := lv) (smLv sm) (fun p hp => by rw [Finset.mem_singleton.mp hp, L_tc]; exact Finset.mem_singleton_self _)
    (fun g u hg => by obtain ⟨d, sm', rfl, -⟩ := hO g u hg; rw [L_tc]; exact Finset.mem_singleton_self _)
    (fun p hp => by rw [Finset.mem_singleton.mp hp]; exact Nat.le_refl _)
    (fun g u hg => by obtain ⟨d, sm', rfl, h⟩ := hO g u hg; exact h)

omit [FloatOps F] in
/-- The same, when only copies' arrivals are owed. -/
theorem mayWait_owedT (c : Dev nD) (sm : SemLoc sig) (h : Tr → ℕ) (hl : ∀ t, h t = 0 → smLv sm < legLv t.1) :
    (levAts L lv : sProp 𝕄) ⊢ MayWait (c : Thread nD τ) sm () (owedT c h) :=
  mayWait c sm _ fun g u hg => by
    obtain ⟨t, ht, rfl⟩ := owedT_pos hg
    exact ⟨peer t c, _, rfl, by rw [lv_k]; exact hl t ht⟩

/-! ## What a device holds while the kernel runs -/

/-- Every copy semaphore's invariant, on every device, at the names `K`, and that its round is reached. -/
def recs (K : Dev nD × Ck → ℕ) : sProp 𝕄 :=
  bigSep (Finset.univ : Finset (Dev nD × Ck)) fun p => iprop(cellInv ER (sched m) (K p) (kcell p.1 p.2) ∗ reached ER (kcell p.1 p.2) 0)

instance recs_persistent (K : Dev nD × Ck → ℕ) : BI.Persistent (recs m K) := by unfold recs; infer_instance

theorem recs_at (K : Dev nD × Ck → ℕ) (c : Dev nD) (k : Ck) :
    recs m K ⊢ iprop(cellInv ER (sched m) (K (c, k)) (kcell c k) ∗ reached ER (kcell c k) 0) :=
  bigSep_elim (Finset.mem_univ ((c, k) : Dev nD × Ck))

/-- A device's start on a copy: the tokens its issue pays with, its positions, and the credit of its arrival. -/
def toks (c : Dev nD) (t : Tr) : sProp 𝕄 :=
  iprop(dutyTok ER (sendCell c t) 0 0 ∗ dutyTok ER (recvCell (peer t c) t) 0 0
    ∗ atPos ER (sendCell c t) 0 ∅ 0 ∗ atPos ER (recvCell c t) 0 ∅ 0 ∗ cred (tallyAt (recvCell c t) () N))

/-- What a device holds of copy `t`, by its status: 0 not issued (with the place it writes once that is announced: at `b`
    every copy's, before that those of leg `x`); 1 issued; 2 the copy of that name arrived; 3 arrived, the chunk in use
    elsewhere; 4 arrived and the loan returned; any other: as 4, the chunk in use elsewhere. -/
def stat (c : Dev nD) (b : Bool) (t : Tr) : ℕ → sProp 𝕄
  | 0 => iprop(toks c t ∗ if b = true ∨ t.1 = .x then dstAny (F := F) t c else iprop(emp))
  | 1 => iprop(atPos ER (sendCell c t) 0 ∅ 0 ∗ atPos ER (recvCell c t) 0 ∅ 0 ∗ cred (tallyAt (recvCell c t) () N) ∗ cred (tallyAt (sendCell c t) () N))
  | 2 => iprop((atPos ER (sendCell c t) 0 ∅ 0 ∗ cred (tallyAt (sendCell c t) () N) ∗ semVal (recvCell c t) 0) ∗ recvPts m t c)
  | 3 => iprop(atPos ER (sendCell c t) 0 ∅ 0 ∗ cred (tallyAt (sendCell c t) () N) ∗ semVal (recvCell c t) 0)
  | 4 => iprop((semVal (sendCell c t) 0 ∗ semVal (recvCell c t) 0 ∗ srcPts m t c) ∗ recvPts m t c)
  | _ => iprop(semVal (sendCell c t) 0 ∗ semVal (recvCell c t) 0 ∗ srcPts m t c)

/-- What a device holds of all copies. -/
def sts (c : Dev nD) (b : Bool) (h : Tr → ℕ) : sProp 𝕄 := bigSep Finset.univ fun t => stat m c b t (h t)

/-- A device's whole protocol state under the record `h`. -/
def St (K : Dev nD × Ck → ℕ) (c : Dev nD) (b : Bool) (h : Tr → ℕ) : sProp 𝕄 :=
  iprop(recs m K ∗ levAts L lv ∗ (∃ W, owes (c : Thread nD τ) (owedT c h) W) ∗ sts m c b h)

/-- One copy's part taken out, and put back at another status. -/
theorem sts_take (c : Dev nD) (b : Bool) (h : Tr → ℕ) (t : Tr) :
    sts m c b h ⊢ iprop(stat m c b t (h t) ∗ ∀ s, stat m c b t s -∗ sts m c b (Function.update h t s)) := by
  unfold sts
  rw [bigSep_at (Finset.mem_univ t)]
  iintro ⟨Ht, Hr⟩
  isplitl [Ht]; · iexact Ht
  iintro %s Hs
  rw [bigSep_at (Finset.mem_univ t), Function.update_self]
  isplitl [Hs]; · iexact Hs
  have e : bigSep (Finset.univ.erase t) (fun t' => stat m c b t' (Function.update h t s t')) = bigSep (Finset.univ.erase t) fun t' => stat m c b t' (h t') :=
    bigSep_congr fun t' ht' => by rw [Function.update_of_ne (Finset.ne_of_mem_erase ht')]
  rw [e]
  iexact Hr

end Cert.KernelIdealProof
-- ==== Proof.KernelIdealSteps.lean ====
/-
The kernel's remote copies, one step at a time: issuing a copy, forwarding a chunk that arrived, waiting for an arrival,
waiting for a loan to return. Each step is stated once, for every copy and every device.
-/
module

public import proofs.«01_k».proof.Proof.KernelIdealProto

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ)

abbrev 𝒱₀ : Variants := Variants.none

/-- A program of device `c` run to `Q`. -/
abbrev Runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The statuses, one by one -/

section Statuses
variable (c : Dev nD) (b : Bool) (t : Tr)
theorem stat_0 : stat m c b t 0 = iprop(toks c t ∗ if b = true ∨ t.1 = .x then dstAny (F := F) t c else iprop(emp)) := rfl
theorem stat_1 : stat m c b t 1 = iprop(atPos ER (sendCell c t) 0 ∅ 0 ∗ atPos ER (recvCell c t) 0 ∅ 0 ∗ cred (tallyAt (recvCell c t) () N) ∗ cred (tallyAt (sendCell c t) () N)) := rfl
theorem stat_2 : stat m c b t 2 = iprop((atPos ER (sendCell c t) 0 ∅ 0 ∗ cred (tallyAt (sendCell c t) () N) ∗ semVal (recvCell c t) 0) ∗ recvPts m t c) := rfl
theorem stat_3 : stat m c b t 3 = iprop(atPos ER (sendCell c t) 0 ∅ 0 ∗ cred (tallyAt (sendCell c t) () N) ∗ semVal (recvCell c t) 0) := rfl
theorem stat_4 : stat m c b t 4 = iprop((semVal (sendCell c t) 0 ∗ semVal (recvCell c t) 0 ∗ srcPts m t c) ∗ recvPts m t c) := rfl
theorem stat_5 : stat m c b t 5 = iprop(semVal (sendCell c t) 0 ∗ semVal (recvCell c t) 0 ∗ srcPts m t c) := rfl

/-- One copy's part taken out, spelt at its status, and put back at another. -/
theorem sts_at (h : Tr → ℕ) {s : ℕ} (hs : h t = s) {P : sProp 𝕄} (e : stat m c b t s = P) :
    sts m c b h ⊢ iprop(P ∗ ∀ s', stat m c b t s' -∗ sts m c b (Function.update h t s')) := by
  subst hs; subst e; exact sts_take m c b h t

/-- What is owed is the same while the copy stays issued. -/
theorem owes_keep (h : Tr → ℕ) (s : ℕ) (h0 : h t ≠ 0) (hs : s ≠ 0) :
    iprop(∃ W, owes (c : Thread nD τ) (owedT c h) W : sProp 𝕄) ⊢ iprop(∃ W, owes (c : Thread nD τ) (owedT c (Function.update h t s)) W) := by
  rw [owedT_keep c h t s h0 hs]
end Statuses

/-! ## Issuing -/

/-- A copy as the launch's schedule sees it: the lent chunk and the place go in, the credit of its issue comes out. -/
theorem wp_send (t : Tr) (c n : Dev nD) (hn : n = peer t c) {src dst : Memref sig .tc .vmem S64x512 .f32}
    (hs : src = srcV t c) (hd : dst = dstV t c) {sS rS : DmaSem sig} (hsS : sS = sendS t) (hrS : rS = recvS t)
    {hsc : (show Memref sig (Dev.tc n : Thread nD τ).2.kind .vmem S64x512 .f32 from dst).view.ref.isScScratch = false}
    {hsrc : src.view.WordExact} {hdst : dst.view.WordExact}
    {hsem : DmaTarget.Typed .vmem (.dma rS) (.remote (Dev.tc n : Thread nD τ) dst (.dma sS) hsc)}
    {α : Type} {Q : α → sProp 𝕄} {k : PUnit → Prog (TpuEff nD τ sig (Elt F) Λ₀ .tc) α}
    (O : CellTallies nD τ sig Unit) (W : Waits sig Unit) :
    iprop(recs m K ∗ srcPts m t c ∗ dstAny (F := F) t c
        ∗ owes (c : Thread nD τ) (O + tallyAt (recvCell (peer t c) t) () N) W
        ∗ dutyTok ER (sendCell c t) 0 0 ∗ dutyTok ER (recvCell (peer t c) t) 0 0)
      ⊢ iprop(((cred (tallyAt (sendCell c t) () N) ∗ owes (c : Thread nD τ) O W) -∗ Runs c (k ⟨⟩) Q)
          -∗ Runs c (.op (.enqueueDma src (.remote (Dev.tc n : Thread nD τ) dst (.dma sS) hsc) (.dma rS) hsrc hdst hsem) k) Q) := by
  subst hn hs hd hsS hrS
  iintro ⟨#Hr, Hs, Hd, HO, Ht₁, Ht₂⟩
  ihave ⟨#HI₁, #Hr₁⟩ := recs_at m K c (some (false, t)) $$ Hr
  ihave ⟨#HI₂, #Hr₂⟩ := recs_at m K (peer t c) (some (true, t)) $$ Hr
  unfold srcPts dstAny ownsTc owns
  icases Hs with ⟨%fs, %hfs, Hs⟩
  icases Hd with ⟨%X, %fd, %hfd, Hd⟩
  iapply (Rounds.wp_send_pointsTo 𝒱₀ ER (sched m) (c : Thread nD τ) none (c' := (peer t c : Thread nD τ)) (src := srcV t c) (dst := dstV t c) (sS := .dma (csem (some (false, t)))) (sem := .dma (csem (some (true, t)))) (q := tshare t) (κ₁ := K (c, some (false, t))) (κ₂ := K (peer t c, some (true, t)))
    (r₁ := 0) (r₂ := 0) (d₁ := 0) (d₂ := 0) (fs := fs) (fd := fd)
    (by rw [duties_k]; exact Finset.mem_singleton_self _) (by rw [duties_k]; exact Finset.mem_singleton_self _)
    () () N (show (dstV t c).view.dmaCredit = N from rfl) (amount_k m c (some (false, t)) 0) (amount_k m (peer t c) (some (true, t)) 0) O rfl (W := W)
    (by rw [payload_k]
        show _ ⊢ srcPts m t c
        unfold srcPts ownsTc owns
        iintro H; iexists fs; isplitr; · ipureintro; exact hfs
        iexact H)
    (by rw [payload_k]
        show _ ⊢ recvPts m t (peer t c)
        unfold recvPts; rw [peer_peer]
        unfold ownsTc owns
        iintro H; iexists ((dstV t c).view.write (Elt F) fd ((srcV t c).view.read (Elt F) fs) Finset.univ)
        isplitr; · ipureintro; exact (View.read_write_univ _ _).trans hfs
        iexact H)) $$ [Hs Hd HO Ht₁ Ht₂]
  isplitr; · iexact HI₁
  isplitr; · iexact HI₂
  isplitl [Hs]; · iexact Hs
  isplitl [Hd]; · iexact Hd
  isplitl [HO]; · iexact HO
  isplitl [Ht₁]; · iexact Ht₁
  isplitr; · iexact Hr₁
  isplitl [Ht₂]; · iexact Ht₂
  iexact Hr₂

/-- ISSUING copy `t`: the lent chunk goes, the record moves from 0 to 1. -/
theorem step_send (c : Dev nD) (b : Bool) (h : Tr → ℕ) (t : Tr) (hb : b = true ∨ t.1 = .x) (h0 : h t = 0) {n : Dev nD} (hn : n = peer t c)
    {src dst : Memref sig .tc .vmem S64x512 .f32} (hs : src = srcV t c) (hd : dst = dstV t c) {sS rS : DmaSem sig} (hsS : sS = sendS t) (hrS : rS = recvS t)
    {hsc : (show Memref sig (Dev.tc n : Thread nD τ).2.kind .vmem S64x512 .f32 from dst).view.ref.isScScratch = false}
    {hsrc : src.view.WordExact} {hdst : dst.view.WordExact}
    {hsem : DmaTarget.Typed .vmem (.dma rS) (.remote (Dev.tc n : Thread nD τ) dst (.dma sS) hsc)}
    {α : Type} {Q : α → sProp 𝕄} {k : PUnit → Prog (TpuEff nD τ sig (Elt F) Λ₀ .tc) α} :
    iprop(St m K c b h ∗ srcPts m t c)
      ⊢ iprop((St m K c b (Function.update h t 1) -∗ Runs c (k ⟨⟩) Q)
          -∗ Runs c (.op (.enqueueDma src (.remote (Dev.tc n : Thread nD τ) dst (.dma sS) hsc) (.dma rS) hsrc hdst hsem) k) Q) := by
  unfold St
  iintro ⟨⟨#Hr, #Hl, ⟨%W, HO⟩, Hst⟩, Hs⟩ Hk
  ihave ⟨Ht, Hback⟩ := sts_at m c b t h h0 ((stat_0 m c b t).trans (by rw [if_pos hb])) $$ Hst
  unfold toks
  icases Ht with ⟨⟨Ht₁, Ht₂, HatS, HatR, HcR⟩, Hd⟩
  ihave HO := (Entails.of_eq (congrArg (fun O => owes (c : Thread nD τ) O W) (owedT_issue c h t h0))) $$ HO
  iapply (wp_send m K t c n hn hs hd hsS hrS (owedT c (Function.update h t 1)) W) $$ [Hs Hd HO Ht₁ Ht₂]
  · isplitr; · iexact Hr
    isplitl [Hs]; · iexact Hs
    isplitl [Hd]; · iexact Hd
    isplitl [HO]; · iexact HO
    isplitl [Ht₁] <;> iassumption
  iintro ⟨HcS, HO⟩
  iapply Hk
  isplitr; · iexact Hr
  isplitr; · iexact Hl
  isplitl [HO]; · iexists W; iexact HO
  iapply Hback $$ %1
  rw [stat_1]
  isplitl [HatS]; · iexact HatS
  isplitl [HatR]; · iexact HatR
  isplitl [HcR] <;> iassumption

/-! ## Waiting -/

/-- A wait on one of the copies' semaphores, below everything owed: what it hands over, and its counter back at zero. -/
theorem wp_wait_k (c : Dev nD) (k' : Ck) {sm : DmaSem sig} (hsm : sm = csem k') {s₁ s₂ : Shape} {sp₁ sp₂ : Space} {e₁ e₂ : EltTy}
    {src : Memref sig .tc sp₁ s₁ e₁} {dst : Memref sig .tc sp₂ s₂ e₂} {hsrc : src.view.WordExact} {hdst : dst.view.WordExact}
    (hc : dst.view.dmaCredit = credit k') {α : Type} {Q : α → sProp 𝕄} {k : PUnit → Prog (TpuEff nD τ sig (Elt F) Λ₀ .tc) α}
    (h : Tr → ℕ) (hl : ∀ t, h t = 0 → ckLv k' < legLv t.1) (W : Waits sig Unit) :
    iprop(recs m K ∗ levAts L lv ∗ cred (tallyAt (kcell c k') () (credit k')) ∗ owes (c : Thread nD τ) (owedT c h) W ∗ atPos ER (kcell c k') 0 ∅ 0)
      ⊢ iprop(((∃ W', owes (c : Thread nD τ) (owedT c h) W') ∗ semVal (kcell c k') 0 ∗ ckPay m c k' -∗ Runs c (k ⟨⟩) Q)
          -∗ Runs c (.op (.waitDma2 sm src dst hsrc hdst) k) Q) := by
  subst hsm
  iintro ⟨#Hr, #Hl, Hc, HO, Hat⟩ Hk
  ihave ⟨#HI, #-⟩ := recs_at m K c k' $$ Hr
  iapply (Rounds.wp_wait_rest_token 𝒱₀ ER (sched m) (c : Thread nD τ) none (κ := K (c, k'))
      (wpE_waitDma2_eq 𝒱₀ (c : Thread nD τ) none Set.univ) (Set.mem_univ _) () (O := owedT c h) (W := W) (R := 0) (m := 0) (T := ∅)
      (by rw [Nat.zero_add, hc]; exact (expect_k m c k').symm)) $$ [Hc HO Hat]
  · isplitr; · iexact HI
    isplitl [Hc]; · rw [hc]; iexact Hc
    isplitl [HO]; · iexact HO
    isplitr; · iapply (mayWait_owedT (F := F) c (.dma (csem k')) h (by rw [lv_k]; exact hl)); iexact Hl
    iexact Hat
  iintro ⟨HO, Hat, -, Hpay⟩
  ihave Hp := (Entails.of_eq (rest_k m c k')) $$ Hpay
  imod (Rounds.cell_close ER (sched m) (Set.mem_univ (K (c, k'))) (fun h => h) (R := 0 + 1) (duties_later m (kcell c k'))) $$ [Hat] with Hz
  · isplitr; · iexact HI
    iexact Hat
  iapply Hk
  isplitl [HO]; · iexists _; iexact HO
  isplitl [Hz] <;> iassumption

omit [FloatOps F] in
theorem chunk_credit (dst : Memref sig .tc .vmem S64x512 .f32) (p : Bool × Tr) : dst.view.dmaCredit = credit (some p) := rfl

omit [FloatOps F] in
theorem legLv_pos (l : Leg) : 0 < legLv l := by cases l <;> decide

theorem ckPay_send (c : Dev nD) (t : Tr) : ckPay m c (some (false, t)) = srcPts m t c := rfl
theorem ckPay_recv (c : Dev nD) (t : Tr) : ckPay m c (some (true, t)) = recvPts m t c := rfl

section Waits
variable (c : Dev nD) (b : Bool) (h : Tr → ℕ) (t : Tr) {sm : DmaSem sig} {src dst : Memref sig .tc .vmem S64x512 .f32} {hsrc : src.view.WordExact} {hdst : dst.view.WordExact}
  {α : Type} {Q : α → sProp (MT nD τ sig Unit (Elt F) ℕ UU ℕ)} {k : PUnit → Prog (TpuEff nD τ sig (Elt F) Λ₀ .tc) α}

/-- WAITING for the arrival of the copy named `t`: the record moves from 1 to 2. -/
theorem step_recv (hsm : sm = recvS t) (h1 : h t = 1) (hl : ∀ t', h t' = 0 → legLv t.1 < legLv t'.1) :
    St m K c b h
      ⊢ iprop((St m K c b (Function.update h t 2) -∗ Runs c (k ⟨⟩) Q) -∗ Runs c (.op (.waitDma2 sm src dst hsrc hdst) k) Q) := by
  unfold St
  iintro ⟨#Hr, #Hl, ⟨%W, HO⟩, Hst⟩ Hk
  ihave ⟨Ht, Hback⟩ := sts_at m c b t h h1 (stat_1 m c b t) $$ Hst
  icases Ht with ⟨HatS, HatR, HcR, HcS⟩
  iapply (wp_wait_k m K c (some (true, t)) hsm (chunk_credit dst _) h hl W) $$ [HcR HO HatR]
  · isplitr; · iexact Hr
    isplitr; · iexact Hl
    isplitl [HcR]; · iexact HcR
    isplitl [HO] <;> iassumption
  iintro ⟨HO, Hz, Hp⟩
  ihave Hp := (Entails.of_eq (ckPay_recv m c t)) $$ Hp
  iapply Hk
  ihave HO := owes_keep c t h 2 (by rw [h1]; decide) (by decide) $$ HO
  isplitr; · iexact Hr
  isplitr; · iexact Hl
  isplitl [HO]; · iexact HO
  iapply Hback $$ %2
  rw [stat_2]
  isplitl [HatS HcS Hz]
  · isplitl [HatS]; · iexact HatS
    isplitl [HcS] <;> iassumption
  iexact Hp

/-- WAITING for the loan of a copy to return, its arrival kept: the record moves from 2 to 4. -/
theorem step_back_held (hsm : sm = sendS t) (h2 : h t = 2) :
    St m K c b h
      ⊢ iprop((St m K c b (Function.update h t 4) -∗ Runs c (k ⟨⟩) Q) -∗ Runs c (.op (.waitDma2 sm src dst hsrc hdst) k) Q) := by
  unfold St
  iintro ⟨#Hr, #Hl, ⟨%W, HO⟩, Hst⟩ Hk
  ihave ⟨Ht, Hback⟩ := sts_at m c b t h h2 (stat_2 m c b t) $$ Hst
  icases Ht with ⟨⟨HatS, HcS, HzR⟩, Hv⟩
  iapply (wp_wait_k m K c (some (false, t)) hsm (chunk_credit dst _) h (fun t' _ => legLv_pos t'.1) W) $$ [HcS HO HatS]
  · isplitr; · iexact Hr
    isplitr; · iexact Hl
    isplitl [HcS]; · iexact HcS
    isplitl [HO] <;> iassumption
  iintro ⟨HO, Hz, Hp⟩
  ihave Hp := (Entails.of_eq (ckPay_send m c t)) $$ Hp
  iapply Hk
  ihave HO := owes_keep c t h 4 (by rw [h2]; decide) (by decide) $$ HO
  isplitr; · iexact Hr
  isplitr; · iexact Hl
  isplitl [HO]; · iexact HO
  iapply Hback $$ %4
  rw [stat_4]
  isplitl [Hz HzR Hp]
  · isplitl [Hz]; · iexact Hz
    isplitl [HzR]; · iexact HzR
    iexact Hp
  iexact Hv

/-- The same, its arrival in use elsewhere: the record moves from 3 to 5. -/
theorem step_back_used (hsm : sm = sendS t) (h3 : h t = 3) :
    St m K c b h
      ⊢ iprop((St m K c b (Function.update h t 5) -∗ Runs c (k ⟨⟩) Q) -∗ Runs c (.op (.waitDma2 sm src dst hsrc hdst) k) Q) := by
  unfold St
  iintro ⟨#Hr, #Hl, ⟨%W, HO⟩, Hst⟩ Hk
  ihave ⟨Ht, Hback⟩ := sts_at m c b t h h3 (stat_3 m c b t) $$ Hst
  icases Ht with ⟨HatS, HcS, HzR⟩
  iapply (wp_wait_k m K c (some (false, t)) hsm (chunk_credit dst _) h (fun t' _ => legLv_pos t'.1) W) $$ [HcS HO HatS]
  · isplitr; · iexact Hr
    isplitr; · iexact Hl
    isplitl [HcS]; · iexact HcS
    isplitl [HO] <;> iassumption
  iintro ⟨HO, Hz, Hp⟩
  ihave Hp := (Entails.of_eq (ckPay_send m c t)) $$ Hp
  iapply Hk
  ihave HO := owes_keep c t h 5 (by rw [h3]; decide) (by decide) $$ HO
  isplitr; · iexact Hr
  isplitr; · iexact Hl
  isplitl [HO]; · iexact HO
  iapply Hback $$ %5
  rw [stat_5]
  isplitl [Hz]; · iexact Hz
  isplitl [HzR]; · iexact HzR
  iexact Hp

end Waits

/-! ## Using what arrived -/

/-- The chunk a copy left, taken for use elsewhere: the record moves from 2 to 3. -/
theorem take_used (c : Dev nD) (b : Bool) (h : Tr → ℕ) (t : Tr) (h2 : h t = 2) :
    St m K c b h ⊢ iprop(recvPts m t c ∗ St m K c b (Function.update h t 3)) := by
  unfold St
  iintro ⟨#Hr, #Hl, HO, Hst⟩
  ihave ⟨Ht, Hback⟩ := sts_at m c b t h h2 (stat_2 m c b t) $$ Hst
  icases Ht with ⟨Ht, Hv⟩
  isplitl [Hv]; · iexact Hv
  ihave HO := owes_keep c t h 3 (by rw [h2]; decide) (by decide) $$ HO
  isplitr; · iexact Hr
  isplitr; · iexact Hl
  isplitl [HO]; · iexact HO
  iapply Hback $$ %3
  rw [stat_3]
  iexact Ht

/-- The chunk a copy left, taken for the moment. -/
theorem take_held (c : Dev nD) (b : Bool) (h : Tr → ℕ) (t : Tr) (h2 : h t = 2) :
    St m K c b h ⊢ iprop(recvPts m t c ∗ (recvPts m t c -∗ St m K c b h)) := by
  unfold St
  iintro ⟨#Hr, #Hl, HO, Hst⟩
  ihave ⟨Ht, Hback⟩ := sts_at m c b t h h2 (stat_2 m c b t) $$ Hst
  icases Ht with ⟨Ht, Hv⟩
  isplitl [Hv]; · iexact Hv
  iintro Hv
  isplitr; · iexact Hr
  isplitr; · iexact Hl
  isplitl [HO]; · iexact HO
  have e : sts m c b h = sts m c b (Function.update h t 2) := by rw [← h2, Function.update_eq_self]
  rw [e]
  iapply Hback $$ %2
  rw [stat_2]
  isplitl [Ht] <;> iassumption

end Cert.KernelIdealProof
-- ==== Proof.KernelIdealTimes.lean ====
/-
The order of the kernel's remote copies. Its steps on them — each one an issue, a wait for an arrival, an issue that forwards
an arrived chunk, or a wait for a loan's return — are numbered from 0 in program order, the same on every device; the record
before step `n` is `hst n`.
-/
module

public import proofs.«01_k».proof.Proof.KernelIdealSteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Handshake (bigSep_at bigSep_put)

variable {F : FTy → Type} [FloatOps F]

local notation "𝕄" => MT nD τ sig Unit (Elt F) ℕ UU ℕ

variable (m : (ℓ : Loc nD τ sig) → Buf (Elt F) ℓ) (K : Dev nD × Ck → ℕ)

/-- The step at which a copy is issued, -/
def tI : Tr → ℕ
  | (.x, r) => r.val
  | (.y, r) => 9 + 3 * r.val
  | (.z, r) => 10 + 3 * r.val
  | (.f, r) => 33 + 2 * r.val
/-- at which the copy of that name is waited for, -/
def tR : Tr → ℕ
  | (.x, r) => 8 + 3 * r.val
  | (.y, r) => if r.val < 4 then 48 + r.val else 32 + 2 * r.val
  | (.z, r) => if r.val < 4 then 32 + 2 * r.val else 48 + r.val
  | (.f, r) => 56 + 2 * r.val
/-- and at which its loan's return is. -/
def tB : Tr → ℕ
  | (.x, r) => 72 + r.val
  | (.y, r) => 80 + 2 * r.val
  | (.z, r) => 81 + 2 * r.val
  | (.f, r) => 57 + 2 * r.val

/-- The copy whose chunk, arrived, copy `(f, r)` forwards; -/
def via (r : Fin 8) : Tr := if r.val < 4 then (.z, r) else (.y, r)
/-- the copies so used. -/
def used : Tr → Bool
  | (.y, r) => decide (4 ≤ r.val)
  | (.z, r) => decide (r.val < 4)
  | _ => false

/-- The record before step `n`. -/
def hst (n : ℕ) (t : Tr) : ℕ :=
  if n ≤ tI t then 0 else if n ≤ tR t then 1
  else if n ≤ tB t then (if used t = true ∧ tI (.f, t.2) < n then 3 else 2)
  else if used t = true then 5 else 4

section Orders
set_option maxRecDepth 20000

theorem hst_zero : hst 0 = fun _ => 0 := by funext t; exact if_pos (Nat.zero_le _)

theorem hst_issue : ∀ t : Tr, t.1 ≠ .f → ∀ t', hst (tI t + 1) t' = Function.update (hst (tI t)) t 1 t' := by decide
theorem hst_recv : ∀ t : Tr, ∀ t', hst (tR t + 1) t' = Function.update (hst (tR t)) t 2 t' := by decide
theorem hst_fwd : ∀ (r : Fin 8) (t' : Tr),
    hst (tI (.f, r) + 1) t' = Function.update (Function.update (hst (tI (.f, r))) (via r) 3) (.f, r) 1 t' := by decide
theorem hst_back : ∀ t : Tr, ∀ t', hst (tB t + 1) t' = Function.update (hst (tB t)) t (if used t = true then 5 else 4) t' := by decide

theorem hst_at_issue : ∀ t : Tr, hst (tI t) t = 0 := by decide
theorem hst_at_recv : ∀ t : Tr, hst (tR t) t = 1 := by decide
theorem hst_at_via : ∀ r : Fin 8, hst (tI (.f, r)) (via r) = 2 := by decide
theorem hst_at_back : ∀ t : Tr, hst (tB t) t = if used t = true then 3 else 2 := by decide
/-- While chunk `r` is being summed the quarter's chunk `r` across `x` has arrived and is kept. -/
theorem hst_sum : ∀ r : Fin 8, hst (9 + 3 * r.val) (.x, r) = 2 := by decide
/-- An arrival waited for lies below all that is still owed then. -/
theorem hst_below : ∀ t t' : Tr, hst (tR t) t' = 0 → legLv t.1 < legLv t'.1 := by decide
/-- Before step 8 only copies of leg `x` are issued. -/
theorem hst_eight : ∀ t : Tr, hst 8 t = if t.1 = .x then 1 else 0 := by decide
/-- After the last step. -/
theorem hst_end : ∀ t : Tr, hst 96 t = if used t = true then 5 else 4 := by decide
end Orders

/-- A chunk forwarded is the chunk that arrived. -/
theorem recv_via (r : Fin 8) (c : Dev nD) : recvPts m (via r) c = srcPts m (.f, r) c := by
  unfold recvPts srcPts via
  by_cases hr : r.val < 4
  · rw [if_pos hr]
    show ownsTc c (oV (qd (zp c)) r) fullShare (cv m (zp c) (qd (zp c)) r) = ownsTc c (oV (if r.val < 4 then qd (zp c) else qd (yp c)) r) fullShare (cv m c (if r.val < 4 then qd (zp c) else qd (yp c)) r)
    rw [if_pos hr]; unfold cv; rw [dv_zp]
  · rw [if_neg hr]
    show ownsTc c (oV (qd (yp c)) r) fullShare (cv m (yp c) (qd (yp c)) r) = ownsTc c (oV (if r.val < 4 then qd (zp c) else qd (yp c)) r) fullShare (cv m c (if r.val < 4 then qd (zp c) else qd (yp c)) r)
    rw [if_neg hr]; unfold cv; rw [dv_yp]

/-! ## The steps, numbered -/

section Steps
variable (c : Dev nD) {α : Type} {Q : α → sProp (MT nD τ sig Unit (Elt F) ℕ UU ℕ)} {k : PUnit → Prog (TpuEff nD τ sig (Elt F) Λ₀ .tc) α}

/-- Step `tI t`: the issue of a copy of leg `x`, `y` or `z`. -/
theorem send_at (b : Bool) (t : Tr) (n : ℕ) (ht : n = tI t) (hf : t.1 ≠ .f) (hb : b = true ∨ t.1 = .x) {d : Dev nD} (hn : d = peer t c)
    {src dst : Memref sig .tc .vmem S64x512 .f32} (hs : src = srcV t c) (hd : dst = dstV t c) {sS rS : DmaSem sig} (hsS : sS = sendS t) (hrS : rS = recvS t)
    {hsc : (show Memref sig (Dev.tc d : Thread nD τ).2.kind .vmem S64x512 .f32 from dst).view.ref.isScScratch = false}
    {hsrc : src.view.WordExact} {hdst : dst.view.WordExact}
    {hsem : DmaTarget.Typed .vmem (.dma rS) (.remote (Dev.tc d : Thread nD τ) dst (.dma sS) hsc)} :
    St m K c b (hst n)
      ⊢ iprop(srcPts m t c -∗ (St m K c b (hst (n + 1)) -∗ Runs c (k ⟨⟩) Q)
          -∗ Runs c (.op (.enqueueDma src (.remote (Dev.tc d : Thread nD τ) dst (.dma sS) hsc) (.dma rS) hsrc hdst hsem) k) Q) := by
  subst ht
  rw [funext (hst_issue t hf)]
  refine BI.wand_intro ?_
  exact step_send m K c b (hst (tI t)) t hb (hst_at_issue t) hn hs hd hsS hrS

/-- Step `tI (f, r)`: the issue of a forwarding copy; it lends the chunk that arrived. -/
theorem fwd_at (r : Fin 8) (n : ℕ) (ht : n = tI (.f, r)) {d : Dev nD} (hn : d = peer (.f, r) c)
    {src dst : Memref sig .tc .vmem S64x512 .f32} (hs : src = srcV (.f, r) c) (hd : dst = dstV (.f, r) c) {sS rS : DmaSem sig} (hsS : sS = sendS (.f, r)) (hrS : rS = recvS (.f, r))
    {hsc : (show Memref sig (Dev.tc d : Thread nD τ).2.kind .vmem S64x512 .f32 from dst).view.ref.isScScratch = false}
    {hsrc : src.view.WordExact} {hdst : dst.view.WordExact}
    {hsem : DmaTarget.Typed .vmem (.dma rS) (.remote (Dev.tc d : Thread nD τ) dst (.dma sS) hsc)} :
    St m K c true (hst n)
      ⊢ iprop((St m K c true (hst (n + 1)) -∗ Runs c (k ⟨⟩) Q)
          -∗ Runs c (.op (.enqueueDma src (.remote (Dev.tc d : Thread nD τ) dst (.dma sS) hsc) (.dma rS) hsrc hdst hsem) k) Q) := by
  subst ht
  rw [funext (hst_fwd r)]
  refine (take_used m K c true (hst (tI (.f, r))) (via r) (hst_at_via r)).trans ?_
  rw [recv_via]
  have hx : ∀ P R : sProp 𝕄, iprop(P ∗ R) ⊢ iprop(R ∗ P) := fun P R => by
    iintro ⟨H₁, H₂⟩; isplitl [H₂] <;> iassumption
  refine (hx _ _).trans (step_send m K c true _ (.f, r) (.inl rfl) ?_ hn hs hd hsS hrS)
  rw [Function.update_of_ne (by unfold via; split <;> exact fun h => by cases congrArg Prod.fst h)]
  exact hst_at_issue (.f, r)

variable (t : Tr) (n : ℕ) {sm : DmaSem sig} {src dst : Memref sig .tc .vmem S64x512 .f32} {hsrc : src.view.WordExact} {hdst : dst.view.WordExact}

/-- Step `tR t`: the wait for the arrival of the copy named `t`. -/
theorem recv_at (ht : n = tR t) (hsm : sm = recvS t) :
    St m K c true (hst n) ⊢ iprop((St m K c true (hst (n + 1)) -∗ Runs c (k ⟨⟩) Q) -∗ Runs c (.op (.waitDma2 sm src dst hsrc hdst) k) Q) := by
  subst ht
  rw [funext (hst_recv t)]
  exact step_recv m K c true (hst (tR t)) t hsm (hst_at_recv t) (hst_below t)

/-- Step `tB t`: the wait for the return of copy `t`'s loan. -/
theorem back_at (ht : n = tB t) (hsm : sm = sendS t) :
    St m K c true (hst n) ⊢ iprop((St m K c true (hst (n + 1)) -∗ Runs c (k ⟨⟩) Q) -∗ Runs c (.op (.waitDma2 sm src dst hsrc hdst) k) Q) := by
  subst ht
  rw [funext (hst_back t)]
  have h := hst_at_back t
  by_cases hu : used t = true
  · rw [if_pos hu] at h ⊢
    exact step_back_used m K c true (hst (tB t)) t hsm h
  · rw [if_neg hu] at h ⊢
    exact step_back_held m K c true (hst (tB t)) t hsm h

end Steps

end Cert.KernelIdealProof
-- ==== Proof.KernelIdealMoves.lean ====
/-
The kernel's other steps on one device: its three announcements and two waits on the barrier, the local copy of its own
quarter of the input, and the sum of one chunk (two loads, a load that is not used, a store).
-/
module

public import proofs.«01_k».proof.Proof.KernelIdealSteps
public import Idealize.ShloMosaic.Lib.MemrefSat

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Handshake (bigSep_at bigSep_put)

variable {F : FTy → Type} [FloatOps F]

local notation "𝕄" => MT nD τ sig Unit (Elt F) ℕ UU ℕ

variable (m : (ℓ : Loc nD τ sig) → Buf (Elt F) ℓ) (K : Dev nD × Ck → ℕ)

/-! ## The barrier -/

/-- The barrier's invariants, on every device, at the names `B`. -/
def bars (B : Dev nD → ℕ) : sProp 𝕄 := bigSep Finset.univ fun c : Dev nD => barInv (F := F) (B c) c

instance bars_persistent (B : Dev nD → ℕ) : BI.Persistent (bars (F := F) B) := by unfold bars; infer_instance

omit [FloatOps F] in
theorem bars_at (B : Dev nD → ℕ) (c : Dev nD) : bars (F := F) B ⊢ barInv (F := F) (B c) c := bigSep_elim (Finset.mem_univ c)

omit [FloatOps F] in
theorem one_lt_legLv (l : Leg) : 1 < legLv l := by cases l <;> decide

section Moves
variable (B : Dev nD → ℕ) (c : Dev nD) {α : Type} {Q : α → sProp (MT nD τ sig Unit (Elt F) ℕ UU ℕ)} {k : PUnit → Prog (TpuEff nD τ sig (Elt F) Λ₀ .tc) α}

/-- An announcement to device `p`, of the places of `p`'s copies to this device. -/
theorem step_signal (d : Fin 3) {p n : Dev nD} (hn : n = p) {k' : ℕ} (hk : k' = bamt d) {O₀ : CellTallies nD τ sig Unit} (O : CellTallies nD τ sig Unit)
    (hO : O₀ = O + tallyAt (barCell p) () (bamt d)) :
    iprop(bars B ∗ (∃ W, owes (c : Thread nD τ) O₀ W) ∗ dutyTok ER (barCell p) 0 d ∗ bpay (F := F) p d)
      ⊢ iprop(((∃ W, owes (c : Thread nD τ) O W) -∗ Runs c (k ⟨⟩) Q)
          -∗ Runs c (.op (.semSignal (Dev.tc n : Thread nD τ) barS k') k) Q) := by
  subst hn hk
  iintro ⟨#Hb, ⟨%W, HO⟩, Ht, Hp⟩ Hk
  ihave #HB := bars_at B n $$ Hb
  iapply (wp_semSignal 𝒱₀ (c : Thread nD τ) none Set.univ (dst := (n : Thread nD τ)) (sem := barS) (k' := bamt d) () O hO (W := W)) $$ HO [Ht Hp]
  · iapply (Cert.Handshake.announce ER bamt (bpay (F := F) n) (B n) (barCell n) d)
    isplitr; · iexact HB
    isplitl [Ht] <;> iassumption
  iintro HO
  iapply Hk
  iexists W; iexact HO

/-- Between the barrier's two waits: the announcements heard include the one from across `x`. -/
def heard : sProp 𝕄 :=
  iprop(∃ S : Finset (Fin 3), ⌜0 ∈ S⌝ ∗ atPos ER (barCell c) 0 S 3 ∗ bigSep (S.erase 0) (bpay (F := F) c) ∗ cred (tallyAt (barCell c) () 2))

/-- The first wait, for three units: without the announcement from across `x` there are two. -/
theorem step_wait_three (h : Tr → ℕ) {k' : ℕ} (hk : k' = 3) :
    iprop(bars B ∗ levAts L lv ∗ (∃ W, owes (c : Thread nD τ) (owedT c h) W) ∗ atPos ER (barCell c) 0 ∅ 0
        ∗ cred (tallyAt (barCell c) () 3) ∗ cred (tallyAt (barCell c) () 2))
      ⊢ iprop(((∃ W, owes (c : Thread nD τ) (owedT c h) W) ∗ bpay (F := F) c 0 ∗ heard (F := F) c -∗ Runs c (k ⟨⟩) Q)
          -∗ Runs c (.op (.semWait barS k') k) Q) := by
  subst hk
  iintro ⟨#Hb, #Hl, ⟨%W, HO⟩, Hat, Hc3, Hc2⟩ Hk
  ihave #HB := bars_at B c $$ Hb
  iapply (Idealize.ShloMosaic.wp_wait_token 𝒱₀ (c : Thread nD τ) none Set.univ (sm := .reg barS) (k' := 3) (wpE_semWait_eq 𝒱₀ (c : Thread nD τ) none Set.univ) () (O := owedT c h) (W := W)) $$ [Hc3 HO] [Hat Hc2 Hk]
  · isplitl [Hc3]; · iexact Hc3
    isplitl [HO]; · iexact HO
    iapply (mayWait_owedT (F := F) c (.reg barS) h (fun t _ => by rw [lv_bar]; exact one_lt_legLv t.1)); iexact Hl
  iapply (Cert.Handshake.collect ER bamt (bpay (F := F) c) (B c) (barCell c) 3 ∅ 0)
  isplitr; · iexact HB
  isplitl [Hat]; · iexact Hat
  iintro ⟨%S, %hS, Hat, Hp⟩ HO
  obtain ⟨-, hS⟩ := hS
  have h0 : (0 : Fin 3) ∈ S := by revert hS; revert S; decide
  iapply Hk
  isplitl [HO]; · iexists _; iexact HO
  ihave Hp := (Entails.of_eq (show bigSep (S \ ∅) (bpay (F := F) c) = iprop(bpay (F := F) c 0 ∗ bigSep (S.erase 0) (bpay (F := F) c)) by
    rw [Finset.sdiff_empty]; exact bigSep_at h0 _)) $$ Hp
  icases Hp with ⟨H0, Hp⟩
  isplitl [H0]; · iexact H0
  unfold heard
  iexists S
  isplitr; · ipureintro; exact h0
  isplitl [Hat]; · iexact Hat
  isplitl [Hp] <;> iassumption

/-- The second wait, for the other two units: every announcement is heard, and the barrier's counter is the device's, at zero. -/
theorem step_wait_two (h : Tr → ℕ) {k' : ℕ} (hk : k' = 2) (hl : ∀ t, h t = 0 → 1 < legLv t.1) :
    iprop(bars B ∗ levAts L lv ∗ (∃ W, owes (c : Thread nD τ) (owedT c h) W) ∗ heard (F := F) c)
      ⊢ iprop(((∃ W, owes (c : Thread nD τ) (owedT c h) W) ∗ bpay (F := F) c 1 ∗ bpay (F := F) c 2 ∗ semVal (barCell c) 0 -∗ Runs c (k ⟨⟩) Q)
          -∗ Runs c (.op (.semWait barS k') k) Q) := by
  subst hk
  unfold heard
  iintro ⟨#Hb, #Hl, ⟨%W, HO⟩, ⟨%S, %h0, Hat, Hp, Hc2⟩⟩ Hk
  ihave #HB := bars_at B c $$ Hb
  iapply (Idealize.ShloMosaic.wp_wait_token 𝒱₀ (c : Thread nD τ) none Set.univ (sm := .reg barS) (k' := 2) (wpE_semWait_eq 𝒱₀ (c : Thread nD τ) none Set.univ) () (O := owedT c h) (W := W)) $$ [Hc2 HO] [Hat Hp Hk]
  · isplitl [Hc2]; · iexact Hc2
    isplitl [HO]; · iexact HO
    iapply (mayWait_owedT (F := F) c (.reg barS) h (by rw [lv_bar]; exact hl)); iexact Hl
  iapply (Cert.Handshake.collect ER bamt (bpay (F := F) c) (B c) (barCell c) 2 S 3)
  isplitr; · iexact HB
  isplitl [Hat]; · iexact Hat
  iintro ⟨%S', %hS, Hat, Hp'⟩ HO
  obtain ⟨hsub, hS⟩ := hS
  have hu : S' = Finset.univ := by revert hS; clear hsub; revert S'; decide
  subst hu
  imod (Cert.Handshake.close ER bamt (bpay (F := F) c) (B c) (barCell c) (3 + 2) (by decide)) $$ [Hat] with Hz
  · isplitr; · iexact HB
    iexact Hat
  iapply Hk
  isplitl [HO]; · iexists _; iexact HO
  have e : iprop(bigSep (S.erase 0) (bpay (F := F) c) ∗ bigSep (Finset.univ \ S) (bpay (F := F) c)) = iprop(bpay (F := F) c 1 ∗ bpay (F := F) c 2) := by
    have hd : Disjoint (S.erase 0) (Finset.univ \ S) := by
      rw [Finset.disjoint_left]; intro i hi hi'
      exact (Finset.mem_sdiff.mp hi').2 (Finset.mem_of_mem_erase hi)
    have hun : S.erase 0 ∪ (Finset.univ \ S) = {1, 2} := by revert h0; clear hd; revert S; decide
    refine (bigSep_union hd).symm.trans ?_
    rw [hun]
    refine (bigSep_put (by decide) _).trans ?_
    rw [bigSep_singleton]
  ihave H := (Entails.of_eq e) $$ [Hp Hp']
  · isplitl [Hp] <;> iassumption
  icases H with ⟨H1, H2⟩
  isplitl [H1]; · iexact H1
  isplitl [H2] <;> iassumption

/-! ## The local copy -/

omit [FloatOps F] in
theorem whole_credit (dst : Memref sig .tc .vmem S512x512 .f32) : dst.view.dmaCredit = credit none := rfl

/-- Starting the copy of the device's own quarter. -/
theorem step_load_start {src : Memref sig .tc .hbm S512x512 .f32} (hs : src = aV c) {sm : DmaSem sig} (hsm : sm = loadS)
    {hsrc : src.view.WordExact} {hdst : mM.view.WordExact} {hsem : DmaTarget.Typed (nD := nD) .hbm (.dma sm) (DmaTarget.here (nD := nD) (τ := τ) (p := .tc) mM)} :
    iprop(recs m K ∗ argPts m c ∗ (∃ X : S512x512.Idx → Elt F .f32, ownsTc c mM fullShare X) ∗ dutyTok ER (kcell c none) 0 0)
      ⊢ iprop((cred (tallyAt (kcell c none) () NL) -∗ Runs c (k ⟨⟩) Q)
          -∗ Runs c (.op (.enqueueDma src (DmaTarget.here (nD := nD) (τ := τ) (p := .tc) mM) (.dma sm) hsrc hdst hsem) k) Q) := by
  subst hs hsm
  iintro ⟨#Hr, Ha, ⟨%X, Hm⟩, Ht⟩ Hk
  ihave ⟨#HI, #Hr₁⟩ := recs_at m K c none $$ Hr
  unfold argPts ownsTc owns
  icases Hm with ⟨%fd, %hfd, Hm⟩
  iapply (Rounds.wp_copy_pointsTo 𝒱₀ ER (sched m) (c : Thread nD τ) none (κ := K (c, none)) (src := aV c) (dst := mM) (sem := .dma (csem none)) (q := fullShare)
    (r := 0) (d := 0) (fs := m ((c : Thread nD τ).loc main_arg0)) (fd := fd)
    (by rw [duties_k]; exact Finset.mem_singleton_self _) () NL rfl (amount_k m c none 0)
    (by rw [payload_k]
        show _ ⊢ iprop(ownsTc c mM fullShare (xq m c) ∗ argPts m c)
        unfold argPts ownsTc owns
        iintro ⟨H, Ha⟩
        isplitl [H]
        · iexists (mM.view.write (Elt F) fd ((aV c).view.read (Elt F) (m ((c : Thread nD τ).loc main_arg0))) Finset.univ)
          isplitr; · ipureintro; exact (View.read_write_univ _ _).trans rfl
          iexact H
        iexact Ha)) $$ [Ha Hm Ht]
  · isplitr; · iexact HI
    isplitl [Ha]; · iexact Ha
    isplitl [Hm]; · iexact Hm
    isplitl [Ht]; · iexact Ht
    iexact Hr₁
  iexact Hk

/-- Waiting for it. -/
theorem step_load_wait {sm : DmaSem sig} (hsm : sm = loadS) {src : Memref sig .tc .hbm S512x512 .f32} {dst : Memref sig .tc .vmem S512x512 .f32}
    {hsrc : src.view.WordExact} {hdst : dst.view.WordExact} (h : Tr → ℕ) :
    iprop(recs m K ∗ levAts L lv ∗ cred (tallyAt (kcell c none) () NL) ∗ (∃ W, owes (c : Thread nD τ) (owedT c h) W) ∗ atPos ER (kcell c none) 0 ∅ 0)
      ⊢ iprop(((∃ W, owes (c : Thread nD τ) (owedT c h) W) ∗ semVal (kcell c none) 0 ∗ ownsTc c mM fullShare (xq m c) ∗ argPts m c -∗ Runs c (k ⟨⟩) Q)
          -∗ Runs c (.op (.waitDma2 sm src dst hsrc hdst) k) Q) := by
  iintro ⟨#Hr, #Hl, Hc, ⟨%W, HO⟩, Hat⟩ Hk
  iapply (wp_wait_k m K c none hsm (whole_credit dst) h (fun t' _ => legLv_pos t'.1) W) $$ [Hc HO Hat]
  · isplitr; · iexact Hr
    isplitr; · iexact Hl
    isplitl [Hc]; · iexact Hc
    isplitl [HO] <;> iassumption
  iintro ⟨HO, Hz, Hp⟩
  ihave Hp := (Entails.of_eq (show ckPay m c none = iprop(ownsTc c mM fullShare (xq m c) ∗ argPts m c) from rfl)) $$ Hp
  iapply Hk
  isplitl [HO]; · iexact HO
  isplitl [Hz] <;> iassumption

/-! ## The sum of a chunk -/

/-- The half of the device's own quarter of the input that its loads use. -/
def mine : sProp 𝕄 := bigSep Finset.univ fun r : Fin 8 => ownsTc c (mV r) fullShare.left (xch m c r)

/-- The chunks of the device's own quarter of the result not yet computed, from `n` on. -/
def blank (n : ℕ) : sProp 𝕄 :=
  bigSep (Finset.univ.filter fun r : Fin 8 => n ≤ r.val) fun r => iprop(∃ X : S64x512.Idx → Elt F .f32, ownsTc c (oV (qd c) r) fullShare X)

/-- The chunks of the input to be sent, from `n` on. -/
def unsent (n : ℕ) : sProp 𝕄 := bigSep (Finset.univ.filter fun r : Fin 8 => n ≤ r.val) fun r => srcPts m (.x, r) c

omit [FloatOps F] in
/-- The next one taken out. -/
theorem tail_next (Φ : Fin 8 → sProp 𝕄) (r : Fin 8) :
    bigSep (Finset.univ.filter fun r' : Fin 8 => r.val ≤ r'.val) Φ
      = iprop(Φ r ∗ bigSep (Finset.univ.filter fun r' : Fin 8 => r.val + 1 ≤ r'.val) Φ) := by
  refine (bigSep_at (i := r) (by simp) Φ).trans ?_
  have e : (Finset.univ.filter fun r' : Fin 8 => r.val ≤ r'.val).erase r = Finset.univ.filter fun r' : Fin 8 => r.val + 1 ≤ r'.val := by
    revert r; decide
  rw [e]

omit [FloatOps F] in
theorem unsent_next (r : Fin 8) [FloatOps F] : unsent m c r.val = iprop(srcPts m (.x, r) c ∗ unsent m c (r.val + 1)) := tail_next _ r

variable {kv : (S64x512.Idx → Elt F .f32) → Prog (TpuEff nD τ sig (Elt F) Λ₀ .tc) α}

/-- A load of an owned chunk. -/
theorem load_owned {s₀ : Shape} {M : Memref sig .tc .vmem s₀ .f32} (r : Rect s₀) (hr : ∀ a, r.stride a = 1)
    {q : PosShare TreeShare} {X : r.shape.Idx → Elt F .f32} {hl : M.view.LoadsAt r.toLoadRect}
    {kr : (r.shape.Idx → Elt F .f32) → Prog (TpuEff nD τ sig (Elt F) Λ₀ .tc) α} :
    (ownsTc c (M.slice r hr) q X : sProp 𝕄)
      ⊢ iprop((ownsTc c (M.slice r hr) q X -∗ Runs c (kr X) Q) -∗ Runs c (.op (.load M r.toLoadRect hl) kr) Q) := by
  unfold ownsTc owns
  iintro ⟨%f, %hf, H⟩ Hk
  iapply (wp_load_rect 𝒱₀ (c : Thread nD τ) none Set.univ (m := M) (r := r) (Finset.Subset.refl _)) $$ H
  iintro H
  ihave Hk := Hk $$ [H]
  · iexists f; isplitr; · ipureintro; exact hf
    iexact H
  rw [← hf]
  iexact Hk

/-- A store over an owned chunk. -/
theorem store_owned {s₀ : Shape} {M : Memref sig .tc .vmem s₀ .f32} (r : Rect s₀) (hr : ∀ a, r.stride a = 1)
    {X w : r.shape.Idx → Elt F .f32} {hx : (M.access r).Stores Finset.univ} {hm : (Finset.univ : Finset r.shape.Idx) = Finset.univ ∨ ∀ a, r.stride a = 1} :
    (ownsTc c (M.slice r hr) fullShare X : sProp 𝕄)
      ⊢ iprop((ownsTc c (M.slice r hr) fullShare w -∗ Runs c (k ⟨⟩) Q) -∗ Runs c (.op (.store M r w Finset.univ hx hm) k) Q) := by
  unfold ownsTc owns
  iintro ⟨%f, %hf, H⟩ Hk
  iapply (wp_store 𝒱₀ (c : Thread nD τ) none Set.univ (m := M) (r := r) (w := w) (Mk := Finset.univ) (S := (M.access r).set) (f := f) (Finset.Subset.refl _)) $$ H
  iintro H
  iapply Hk
  iexists ((M.access r).write (Elt F) f w Finset.univ)
  isplitr; · ipureintro; exact View.read_write_univ _ _
  iexact H

/-- The load of chunk `r` of the device's own quarter of the input; -/
theorem load_mine (r : Fin 8) {hl : mM.view.LoadsAt (hR r).toLoadRect} :
    mine m c ⊢ iprop((mine m c -∗ Runs c (kv (xch m c r)) Q) -∗ Runs c (.op (.load mM (hR r).toLoadRect hl) kv) Q) := by
  unfold mine
  rw [bigSep_at (Finset.mem_univ r)]
  iintro ⟨H, Hr⟩ Hk
  iapply (load_owned c (M := mM) (hR r) (fun _ => rfl)) $$ H
  iintro H
  iapply Hk
  isplitl [H] <;> iassumption

/-- of the one that arrived across `x`; -/
theorem load_arrived (r : Fin 8) (h : Tr → ℕ) (h2 : h (.x, r) = 2) {hl : vM.view.LoadsAt (hR r).toLoadRect} :
    St m K c true h ⊢ iprop((St m K c true h -∗ Runs c (kv (xch m (xp c) r)) Q) -∗ Runs c (.op (.load vM (hR r).toLoadRect hl) kv) Q) := by
  iintro H Hk
  ihave ⟨H, Hback⟩ := take_held m K c true h (.x, r) h2 $$ H
  have e : recvPts m (.x, r) c = ownsTc c (vM.slice (hR r) (fun _ => rfl)) fullShare (xch m (xp c) r) := rfl
  ihave H := (Entails.of_eq e) $$ H
  iapply (load_owned c (M := vM) (hR r) (fun _ => rfl)) $$ H
  iintro H
  iapply Hk
  iapply Hback
  ihave H := (Entails.of_eq e.symm) $$ H
  iexact H

/-- and of the place of the sum, whatever it holds. -/
theorem load_blank (r : Fin 8) (n : ℕ) (hn : n = r.val) {p : Fin 2 → Nat} (hp : p = ![512 * (qd c).val + 64 * r.val, 0]) {hb : ∀ a, p a + S64x512.size a ≤ S2048x512.size a}
    {hl : oM.view.LoadsAt (Rect.unit (s := S2048x512) p S64x512.size hb).toLoadRect} {p' : Prog (TpuEff nD τ sig (Elt F) Λ₀ .tc) α} :
    blank (F := F) c n
      ⊢ iprop((blank (F := F) c n -∗ Runs c p' Q) -∗ Runs c (.op (.load oM (Rect.unit (s := S2048x512) p S64x512.size hb).toLoadRect hl) (fun _ => p')) Q) := by
  subst hp hn
  unfold blank
  rw [tail_next _ r]
  iintro ⟨⟨%X, H⟩, Hr⟩ Hk
  iapply (load_owned c (M := oM) (oR (qd c) r) (fun _ => rfl)) $$ H
  iintro H
  iapply Hk
  isplitl [H]; · iexists X; iexact H
  iexact Hr

/-- The store of the chunk's sum: the chunk is then lent in halves, to the copies of legs `y` and `z`. -/
theorem store_sum (r : Fin 8) (n : ℕ) (hn : n = r.val) {p : Fin 2 → Nat} (hp : p = ![512 * (qd c).val + 64 * r.val, 0]) {hb : ∀ a, p a + S64x512.size a ≤ S2048x512.size a}
    {w : S64x512.Idx → Elt F .f32} (hw : w = k0_pay1 (xch m c r) (xch m (xp c) r))
    {hx : (oM.access (Rect.unit (s := S2048x512) p S64x512.size hb)).Stores Finset.univ} {hm : (Finset.univ : Finset S64x512.Idx) = Finset.univ ∨ ∀ a, (Rect.unit (s := S2048x512) p S64x512.size hb).stride a = 1} :
    blank (F := F) c n
      ⊢ iprop((blank (F := F) c (n + 1) ∗ srcPts m (.y, r) c ∗ srcPts m (.z, r) c -∗ Runs c (k ⟨⟩) Q)
          -∗ Runs c (.op (.store oM (Rect.unit (s := S2048x512) p S64x512.size hb) w Finset.univ hx hm) k) Q) := by
  subst hp hn
  have hv : w = cv m c (qd c) r := by rw [hw]; unfold cv; rw [dv_qd]
  unfold blank
  rw [tail_next _ r]
  iintro ⟨⟨%X, H⟩, Hr⟩ Hk
  iapply (store_owned c (M := oM) (oR (qd c) r) (fun _ => rfl) (w := w)) $$ H
  iintro H
  iapply Hk
  isplitl [Hr]; · iexact Hr
  have e : (ownsTc c (oV (qd c) r) fullShare w : sProp 𝕄) ⊢ iprop(srcPts m (.y, r) c ∗ srcPts m (.z, r) c) := by
    rw [hv]
    exact (owns_halves (c : Thread nD τ) (oV (qd c) r) fullShare (cv m c (qd c) r)).1
  iapply e
  iexact H

end Moves

end Cert.KernelIdealProof
-- ==== Proof.KernelIdealWords.lean ====
/-
The kernel's row offsets and device numbers, computed from the device's own number, are those of the quarters, chunks and
neighbours named in the proof; and what a device holds between two stretches of the kernel.
-/
module

public import proofs.«01_k».proof.Proof.KernelIdealTimes
public import proofs.«01_k».proof.Proof.KernelIdealMoves

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Handshake (bigSep_at bigSep_put)

variable {F : FTy → Type} [FloatOps F]

local notation "𝕄" => MT nD τ sig Unit (Elt F) ℕ UU ℕ

variable (m : (ℓ : Loc nD τ sig) → Buf (Elt F) ℓ) (K : Dev nD × Ck → ℕ)

section Words
variable (c : Dev nD) (r : Fin 8)

omit [FloatOps F] in
theorem row_own : (1024 * ((c.val / 2) % 2) + 512 * (c.val % 2)) = 512 * (qd c).val := by
  have h : c.val < 8 := c.isLt
  show _ = 512 * (c.val % 4); omega

theorem off2_own : k0_off2 c (BitVec.ofNat 32 (64 * r.val)) = ![512 * (qd c).val + 64 * r.val, 0] := by
  rw [k0_off2_eq, row_own]
theorem off3_own : k0_off3 c (BitVec.ofNat 32 (64 * r.val)) = ![512 * (qd c).val + 64 * r.val, 0] := by
  rw [k0_off3_eq, row_own]
theorem off4_z (h : r.val < 4) : k0_off4 c (BitVec.ofNat 32 (64 * r.val)) = ![512 * (qd (zp c)).val + 64 * r.val, 0] := by
  revert h; revert r c; decide
theorem off5_y (h : 4 ≤ r.val) : k0_off5 c (BitVec.ofNat 32 (64 * r.val)) = ![512 * (qd (yp c)).val + 64 * r.val, 0] := by
  revert h; revert r c; decide

theorem oV_of {p : Fin 2 → Nat} {q : Fin 4} (hp : p = ![512 * q.val + 64 * r.val, 0]) (hb : ∀ a, p a + S64x512.size a ≤ S2048x512.size a) :
    oM.slice (Rect.unit (s := S2048x512) p S64x512.size hb) (fun _ => rfl) = oV q r := by
  subst hp; rfl

theorem own_src (hb) : oM.slice (Rect.unit (s := S2048x512) (k0_off3 c (BitVec.ofNat 32 (64 * r.val))) S64x512.size hb) (fun _ => rfl) = oV (qd c) r :=
  oV_of r (off3_own c r) hb
theorem z_src (h : r.val < 4) (hb) :
    oM.slice (Rect.unit (s := S2048x512) (k0_off4 c (BitVec.ofNat 32 (64 * r.val))) S64x512.size hb) (fun _ => rfl) = srcV (.f, r) c :=
  (oV_of r (off4_z c r h) hb).trans (by show _ = oV (if r.val < 4 then qd (zp c) else qd (yp c)) r; rw [if_pos h])
theorem y_src (h : 4 ≤ r.val) (hb) :
    oM.slice (Rect.unit (s := S2048x512) (k0_off5 c (BitVec.ofNat 32 (64 * r.val))) S64x512.size hb) (fun _ => rfl) = srcV (.f, r) c :=
  (oV_of r (off5_y c r h) hb).trans (by show _ = oV (if r.val < 4 then qd (zp c) else qd (yp c)) r; rw [if_neg (by omega)])

variable {α : Type} {Q : α → sProp (MT nD τ sig Unit (Elt F) ℕ UU ℕ)} {k : PUnit → Prog (TpuEff nD τ sig (Elt F) Λ₀ .tc) α}

/-- A program that is over. -/
theorem run_ret (a : α) : Q a ⊢ Runs c (.ret a) Q := by
  show Q a ⊢ wp frame (wpE defs₀ 𝒱₀ c none) Set.univ (.ret a) Q
  rw [wp_ret]
  iintro H
  imodintro
  iexact H

/-- The issue of the next copy of leg `x`. -/
theorem xsend_at (n : ℕ) (hn : n = r.val) {d : Dev nD} (hd : d = xp c) {sS rS : DmaSem sig} (hsS : sS = sendS (.x, r)) (hrS : rS = recvS (.x, r))
    {src dst : Memref sig .tc .vmem S64x512 .f32} (hs : src = mV r) (hv : dst = vV r)
    {hsc : (show Memref sig (Dev.tc d : Thread nD τ).2.kind .vmem S64x512 .f32 from dst).view.ref.isScScratch = false}
    {hsrc : src.view.WordExact} {hdst : dst.view.WordExact}
    {hsem : DmaTarget.Typed .vmem (.dma rS) (.remote (Dev.tc d : Thread nD τ) dst (.dma sS) hsc)} :
    St m K c false (hst n)
      ⊢ iprop(unsent m c n -∗ (St m K c false (hst (n + 1)) -∗ unsent m c (n + 1) -∗ Runs c (k ⟨⟩) Q)
          -∗ Runs c (.op (.enqueueDma src (.remote (Dev.tc d : Thread nD τ) dst (.dma sS) hsc) (.dma rS) hsrc hdst hsem) k) Q) := by
  subst hn
  iintro HS Hu Hk
  ihave Hu := (Entails.of_eq (unsent_next m c r)) $$ Hu
  icases Hu with ⟨Hx, Hu⟩
  iapply (send_at m K c false (.x, r) r.val rfl (by show Leg.x ≠ Leg.f; decide) (.inr rfl) hd hs hv hsS hrS) $$ HS Hx
  iintro HS
  iapply Hk $$ HS Hu

end Words

/-- A piece of the kernel, given the launch's buffers and semaphores. -/
abbrev onBufs {β : Type 1}
    (f : (arg0 : Memref sig .tc .hbm S2048x512 .f32) → arg0.IsWhole → (arg1 : Memref sig .tc .vmem S2048x512 .f32) → arg1.IsWhole
      → (arg2 : Memref sig .tc .vmem S512x512 .f32) → arg2.IsWhole → (arg3 : Memref sig .tc .vmem S512x512 .f32) → arg3.IsWhole
      → DmaSems sig S_ → DmaSems sig S8 → DmaSems sig S8 → DmaSems sig S8 → DmaSems sig S8 → DmaSems sig S8 → DmaSems sig S8
      → DmaSems sig S4 → DmaSems sig S4 → DmaSems sig S4 → DmaSems sig S4 → β) : β :=
  f (Memref.whole main_arg0) (Memref.isWhole_whole _) oM (Memref.isWhole_whole _) mM (Memref.isWhole_whole _) vM (Memref.isWhole_whole _)
    cc0_scratch2 cc0_scratch3 cc0_scratch4 cc0_scratch5 cc0_scratch6 cc0_scratch7 cc0_scratch8 cc0_scratch9 cc0_scratch10 cc0_scratch11 cc0_scratch12

end Cert.KernelIdealProof
-- ==== Proof.KernelIdealPlaces.lean ====
module

/- What a device's buffers are cut into at the start of the kernel, and what they are joined from at its end. -/

public import proofs.«01_k».proof.Proof.KernelIdealWords

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ) (c : Dev nD)

/-! ## Regrouping -/

omit [FloatOps F] in
theorem each {I : Type} {s : Finset I} {Φ Ψ : I → sProp 𝕄} (h : ∀ i ∈ s, Φ i ⊢ Ψ i) : bigSep s Φ ⊢ bigSep s Ψ := bigSep_mono h

omit [FloatOps F] in
theorem filt (p : Tr → Prop) [DecidablePred p] (Φ : Tr → sProp 𝕄) :
    bigSep (Finset.univ.filter p) Φ = bigSep Finset.univ fun t => if p t then Φ t else iprop(emp) := bigSep_filter _ p Φ

omit [FloatOps F] in
/-- What is held over two sets that do not meet. -/
theorem cup {s t : Finset Tr} (h : Disjoint s t) (Φ : Tr → sProp 𝕄) : bigSep (s ∪ t) Φ = iprop(bigSep s Φ ∗ bigSep t Φ) := bigSep_union h

omit [FloatOps F] in
/-- What is held of every copy, chunk by chunk. -/
theorem legs (Φ : Tr → sProp 𝕄) :
    bigSep Finset.univ Φ = bigSep Finset.univ fun r : Fin 8 => iprop(Φ (.x, r) ∗ Φ (.y, r) ∗ Φ (.z, r) ∗ Φ (.f, r)) := by
  refine (bigSep_univ_prod Φ).trans ?_
  refine (bigSep_univ_eq_bigSepL [Leg.x, Leg.y, Leg.z, Leg.f] (by decide) (by decide) _).trans ?_
  rw [bigSep_sep', bigSep_sep', bigSep_sep']
  rfl

/-- The device across the axis an announcement is made along. -/
def across (c : Dev nD) : Fin 3 → Dev nD := ![xp c, yp c, zp c]
theorem peer_ann (t : Tr) (c : Dev nD) : peer t c = across c (ann t) := by revert t c; decide

omit [FloatOps F] in
/-- What is held of every copy, by who announces its place. -/
theorem anns (Φ : Tr → sProp 𝕄) :
    bigSep Finset.univ Φ = iprop(bigSep (Finset.univ.filter fun t : Tr => ann t = 0) Φ
      ∗ bigSep (Finset.univ.filter fun t : Tr => ann t = 1) Φ ∗ bigSep (Finset.univ.filter fun t : Tr => ann t = 2) Φ) := by
  have e : (Finset.univ : Finset Tr) = (Finset.univ.filter fun t : Tr => ann t = 0)
      ∪ ((Finset.univ.filter fun t : Tr => ann t = 1) ∪ Finset.univ.filter fun t : Tr => ann t = 2) := by decide
  have h := bigSep_union (s := Finset.univ.filter fun t : Tr => ann t = 0) (t := (Finset.univ.filter fun t : Tr => ann t = 1) ∪ Finset.univ.filter fun t : Tr => ann t = 2)
    (by decide) (Φ := Φ)
  rw [← e, bigSep_union (by decide)] at h
  exact h

omit [FloatOps F] in
/-- The places a device announces, along the three axes. -/
theorem announced : bigSep Finset.univ (fun t : Tr => dstAny (F := F) t (peer t c)) = iprop(bpay (F := F) (xp c) 0 ∗ bpay (F := F) (yp c) 1 ∗ bpay (F := F) (zp c) 2) := by
  rw [anns]
  have e (d : Fin 3) : bigSep (Finset.univ.filter fun t : Tr => ann t = d) (fun t : Tr => dstAny (F := F) t (peer t c)) = bpay (F := F) (across c d) d :=
    bigSep_congr fun t ht => by rw [peer_ann, (Finset.mem_filter.mp ht).2]
  rw [e, e, e]
  rfl

/-! ## The chunks of the result -/

/-- The quarter of the result that a leg brings. -/
def qs (c : Dev nD) : Leg → Fin 4
  | .x => qd c
  | .y => qd (yp c)
  | .z => qd (zp c)
  | .f => qd (zp (yp c))

theorem qs_bijective : Function.Bijective (qs c) :=
  (Fintype.bijective_iff_injective_and_card _).2 ⟨by unfold Function.Injective; revert c; decide, rfl⟩

/-- The chunks named by the copies. -/
def slotE : Tr ≃ Fin 4 × Fin 8 := Equiv.prodCongr (Equiv.ofBijective (qs c) (qs_bijective c)) (Equiv.refl _)

theorem fwd_tq (r : Fin 8) : tq (.f, r) (peer (.f, r) c) = qd (zp (yp c)) := by revert r c; decide

theorem dst_slot (t : Tr) (h : t.1 ≠ .x) : dstV t (peer t c) = oV (qs c t.1) t.2 := by
  obtain ⟨l, r⟩ := t
  cases l with
  | x => exact absurd rfl h
  | y => rfl
  | z => rfl
  | f => show oV (tq (.f, r) (peer (.f, r) c)) r = oV (qd (zp (yp c))) r; rw [fwd_tq]

omit [FloatOps F] in
theorem dstAny_here (t : Tr) : dstAny (F := F) t (peer t c) = iprop(∃ X : S64x512.Idx → Elt F .f32, ownsTc c (dstV t (peer t c)) fullShare X) := by
  unfold dstAny; rw [peer_peer]

omit [FloatOps F] in
/-- The result's buffer cut into the chunks that the copies name, -/
theorem out_cut (X : S2048x512.Idx → Elt F .f32) :
    ownsTc c oM fullShare X ⊢ (bigSep Finset.univ fun t : Tr => iprop(∃ X : S64x512.Idx → Elt F .f32, ownsTc c (oV (qs c t.1) t.2) fullShare X) : sProp 𝕄) := by
  refine (owns_rects (c : Thread nD τ) oM fullShare (fun p : Fin 4 × Fin 8 => oR p.1 p.2) (fun _ _ => rfl) oR_disjoint oR_cover X).trans ?_
  rw [bigSep_univ_equiv (slotE c)]
  refine each fun t _ => ?_
  iintro H
  iexists _
  iexact H

/-- and joined again, every chunk summed. -/
theorem out_join :
    (bigSep Finset.univ fun t : Tr => (ownsTc c (oV (qs c t.1) t.2) fullShare (cv m c (qs c t.1) t.2) : sProp 𝕄)) ⊢ ownsTc c oM fullShare (outF m c) := by
  have h : (oM.view.loc (c : Thread nD τ) ↦[oM.view.set]{fullShare} (outF m c) : sProp 𝕄) = _ :=
    pointsTo_rects (c : Thread nD τ) oM fullShare (fun p : Fin 4 × Fin 8 => oR p.1 p.2) (fun _ _ => rfl) oR_disjoint oR_cover (outF m c)
  have e : (bigSep Finset.univ fun t : Tr => (ownsTc c (oV (qs c t.1) t.2) fullShare (cv m c (qs c t.1) t.2) : sProp 𝕄))
      = bigSep Finset.univ fun p : Fin 4 × Fin 8 => owns (c : Thread nD τ) (oM.slice (oR p.1 p.2) (fun _ => rfl)) fullShare (fun j => oM.view.read (Elt F) (outF m c) ((oR p.1 p.2).emb j)) := by
    rw [bigSep_univ_equiv (slotE c)]
    refine bigSep_congr fun t _ => ?_
    have hv : (fun j => oM.view.read (Elt F) (outF m c) ((oR (qs c t.1) t.2).emb j)) = cv m c (qs c t.1) t.2 := funext fun j => outF_emb m c (qs c t.1) t.2 j
    exact (congrArg (owns (c : Thread nD τ) (oV (qs c t.1) t.2) fullShare) hv).symm
  rw [e, ← h]
  unfold ownsTc owns
  iintro H
  iexists (outF m c)
  isplitr; · ipureintro; rfl
  iexact H

omit [FloatOps F] in
/-- A 512-row buffer cut into its chunks, -/
theorem half_cut (M : Memref sig .tc .vmem S512x512 .f32) (X : S512x512.Idx → Elt F .f32) :
    ownsTc c M fullShare X ⊢ (bigSep Finset.univ fun r : Fin 8 => ownsTc c (M.slice (hR r) (fun _ => rfl)) fullShare (fun j => X ((hR r).emb j)) : sProp 𝕄) :=
  owns_rects (c : Thread nD τ) M fullShare (fun r : Fin 8 => hR r) (fun _ _ => rfl) hR_disjoint hR_cover X

/-- and joined again: the device's own quarter of the input, -/
theorem mine_join (d : Dev nD) :
    (bigSep Finset.univ fun r : Fin 8 => (ownsTc c (mV r) fullShare (xch m d r) : sProp 𝕄)) ⊢ ownsTc c mM fullShare (xq m d) := by
  have h : (mM.view.loc (c : Thread nD τ) ↦[mM.view.set]{fullShare} (xq m d) : sProp 𝕄) = _ :=
    pointsTo_rects (c : Thread nD τ) mM fullShare (fun r : Fin 8 => hR r) (fun _ _ => rfl) hR_disjoint hR_cover (xq m d)
  refine (Entails.of_eq h.symm).trans ?_
  unfold ownsTc owns
  iintro H
  iexists (xq m d)
  isplitr; · ipureintro; rfl
  iexact H

/-- and the quarter that arrives. -/
theorem theirs_join (d : Dev nD) :
    (bigSep Finset.univ fun r : Fin 8 => (ownsTc c (vV r) fullShare (xch m d r) : sProp 𝕄)) ⊢ ownsTc c vM fullShare (xq m d) := by
  have h : (vM.view.loc (c : Thread nD τ) ↦[vM.view.set]{fullShare} (xq m d) : sProp 𝕄) = _ :=
    pointsTo_rects (c : Thread nD τ) vM fullShare (fun r : Fin 8 => hR r) (fun _ _ => rfl) hR_disjoint hR_cover (xq m d)
  refine (Entails.of_eq h.symm).trans ?_
  unfold ownsTc owns
  iintro H
  iexists (xq m d)
  isplitr; · ipureintro; rfl
  iexact H

/-! ## At the start -/

omit [FloatOps F] in
/-- The two buffers the other devices write are the places to announce, and the device's own quarter of the result. -/
theorem places (X : S512x512.Idx → Elt F .f32) (Y : S2048x512.Idx → Elt F .f32) :
    iprop(ownsTc c vM fullShare X ∗ ownsTc c oM fullShare Y)
      ⊢ (iprop((bpay (F := F) (xp c) 0 ∗ bpay (F := F) (yp c) 1 ∗ bpay (F := F) (zp c) 2) ∗ blank (F := F) c 0) : sProp 𝕄) := by
  refine (BIClass.sep_mono (half_cut c vM X) (out_cut c Y)).trans ?_
  rw [← announced, legs, legs, ← bigSep_sep']
  have e : blank (F := F) c 0 = bigSep Finset.univ fun r : Fin 8 => iprop(∃ X : S64x512.Idx → Elt F .f32, ownsTc c (oV (qd c) r) fullShare X) := by
    unfold blank
    rw [Finset.filter_true_of_mem (fun r _ => Nat.zero_le r.val)]
  rw [e, ← bigSep_sep']
  refine each fun r _ => ?_
  simp only [dstAny_here]
  rw [dst_slot c (.y, r) (by show Leg.y ≠ Leg.x; decide), dst_slot c (.z, r) (by show Leg.z ≠ Leg.x; decide), dst_slot c (.f, r) (by show Leg.f ≠ Leg.x; decide)]
  iintro ⟨Hv, Hx, Hy, Hz, Hf⟩
  isplitr [Hx]
  · isplitl [Hv]; · iexists _; iexact Hv
    isplitl [Hy]; · iexact Hy
    isplitl [Hz] <;> iassumption
  iexact Hx

/-- The device's own quarter of the input: half of every chunk for the sums, half to send. -/
theorem quarter : ownsTc c mM fullShare (xq m c) ⊢ iprop(mine m c ∗ unsent m c 0) := by
  refine (half_cut c mM (xq m c)).trans ?_
  have e : unsent m c 0 = bigSep Finset.univ fun r : Fin 8 => srcPts m (.x, r) c := by
    unfold unsent
    rw [Finset.filter_true_of_mem (fun r _ => Nat.zero_le r.val)]
  rw [e]
  unfold mine
  rw [← bigSep_sep']
  exact each fun r _ => (owns_halves (c : Thread nD τ) (mV r) fullShare (xch m c r)).1

/-- The record at the start, the first places announced. -/
theorem sts_first : iprop(bigSep Finset.univ (toks (F := F) c) ∗ bpay (F := F) c 0) ⊢ sts m c false (hst 0) := by
  have e : bpay (F := F) c 0 = bigSep Finset.univ fun t : Tr => if false = true ∨ t.1 = .x then dstAny (F := F) t c else iprop(emp) := by
    unfold bpay
    rw [← filt]
    congr 1
  rw [e, ← bigSep_sep']
  exact Entails.of_eq (by unfold sts; rw [hst_zero]; rfl)

/-- Once the other places are announced too, the record of all copies but those of leg `x` holds them. -/
theorem sts_all : iprop(sts m c false (hst 8) ∗ bpay (F := F) c 1 ∗ bpay (F := F) c 2) ⊢ sts m c true (hst 8) := by
  have e : iprop(bpay (F := F) c 1 ∗ bpay (F := F) c 2) = bigSep Finset.univ fun t : Tr => if t.1 ≠ .x then dstAny (F := F) t c else iprop(emp) := by
    unfold bpay
    rw [← cup (by decide), ← filt]
    congr 1
    decide
  rw [e]
  unfold sts
  rw [← bigSep_sep']
  refine each fun t _ => ?_
  rw [hst_eight]
  by_cases h : t.1 = .x
  · rw [if_pos h, if_neg (fun hn => hn h)]
    iintro ⟨H, -⟩
    iexact H
  · rw [if_neg h, if_pos h]
    rw [stat_0, stat_0, if_neg (by simp [h]), if_pos (.inl rfl)]
    iintro ⟨⟨H, -⟩, Hd⟩
    isplitl [H] <;> iassumption

/-! ## At the end -/

/-- The semaphores of a copy, back at zero. -/
def quiet (t : Tr) : sProp 𝕄 := iprop(semVal (sendCell c t) 0 ∗ semVal (recvCell c t) 0)

/-- A chunk that arrived, unless it was forwarded. -/
def got (t : Tr) : sProp 𝕄 := if used t = true then iprop(emp) else recvPts m t c

theorem stat_end (b : Bool) (t : Tr) : stat m c b t (hst 96 t) ⊢ iprop(quiet (F := F) c t ∗ srcPts m t c ∗ got m c t) := by
  rw [hst_end]
  unfold got quiet
  by_cases h : used t = true
  · rw [if_pos h, if_pos h, stat_5]
    iintro ⟨Hs, Hr, Hp⟩
    isplitl [Hs Hr]; · isplitl [Hs] <;> iassumption
    isplitl [Hp]; · iexact Hp
    iempintro
  · rw [if_neg h, if_neg h, stat_4]
    iintro ⟨⟨Hs, Hr, Hp⟩, Hv⟩
    isplitl [Hs Hr]; · isplitl [Hs] <;> iassumption
    isplitl [Hp] <;> iassumption

/-- A summed chunk of the result, in place. -/
abbrev done (q : Fin 4) (r : Fin 8) : sProp 𝕄 := ownsTc c (oV q r) fullShare (cv m c q r)

/-- A chunk that arrived on a leg other than `x` is a summed chunk in place, -/
theorem recv_done (t : Tr) (h : t.1 ≠ .x) : recvPts m t c = done m c (qs c t.1) t.2 := by
  unfold recvPts done
  have e : tval m t (peer t c) = cv m c (qs c t.1) t.2 := by
    obtain ⟨l, r⟩ := t
    cases l with
    | x => exact absurd rfl h
    | y => show cv m (yp c) (qd (yp c)) r = cv m c (qd (yp c)) r; unfold cv; rw [dv_yp]
    | z => show cv m (zp c) (qd (zp c)) r = cv m c (qd (zp c)) r; unfold cv; rw [dv_zp]
    | f =>
      show cv m (peer (.f, r) c) (tq (.f, r) (peer (.f, r) c)) r = cv m c (qd (zp (yp c))) r
      rw [fwd_tq]
      unfold cv
      have hd : dv (peer (.f, r) c) (qd (zp (yp c))) = dv c (qd (zp (yp c))) := by revert r c; decide
      rw [hd]
  rw [e, dst_slot c t h]

/-- and so is the one a forwarding copy returns. -/
theorem fwd_done (r : Fin 8) : srcPts m (.f, r) c = done m c (if r.val < 4 then qd (zp c) else qd (yp c)) r := rfl

/-- A chunk, every copy of that chunk over: the four quarters' chunks, and those of the two input buffers. -/
theorem chunk_end (r : Fin 8) :
    iprop(ownsTc c (mV r) fullShare.left (xch m c r)
        ∗ (srcPts m (.x, r) c ∗ srcPts m (.y, r) c ∗ srcPts m (.z, r) c ∗ srcPts m (.f, r) c)
        ∗ (got m c (.x, r) ∗ got m c (.y, r) ∗ got m c (.z, r) ∗ got m c (.f, r)))
      ⊢ iprop((done m c (qs c .x) r ∗ done m c (qs c .y) r ∗ done m c (qs c .z) r ∗ done m c (qs c .f) r)
          ∗ ownsTc c (mV r) fullShare (xch m c r) ∗ ownsTc c (vV r) fullShare (xch m (xp c) r)) := by
  have hyz : iprop(srcPts m (.y, r) c ∗ srcPts m (.z, r) c) ⊢ done m c (qs c .x) r :=
    (owns_halves (c : Thread nD τ) (oV (qd c) r) fullShare (cv m c (qd c) r)).2
  have hm : iprop(ownsTc c (mV r) fullShare.left (xch m c r) ∗ srcPts m (.x, r) c) ⊢ ownsTc c (mV r) fullShare (xch m c r) :=
    (owns_halves (c : Thread nD τ) (mV r) fullShare (xch m c r)).2
  have hx : got m c (.x, r) = ownsTc c (vV r) fullShare (xch m (xp c) r) := rfl
  have hf : got m c (.f, r) = done m c (qs c .f) r := (show got m c (.f, r) = recvPts m (.f, r) c from rfl).trans (recv_done m c (.f, r) (by show Leg.f ≠ Leg.x; decide))
  have hfy : iprop(srcPts m (.f, r) c ∗ got m c (.y, r) ∗ got m c (.z, r)) ⊢ iprop(done m c (qs c .y) r ∗ done m c (qs c .z) r) := by
    rw [fwd_done]
    unfold got
    by_cases h : r.val < 4
    · rw [if_pos h, if_neg (by simp [used, h]), if_pos (by simp [used, h]), recv_done m c (.y, r) (by show Leg.y ≠ Leg.x; decide)]
      iintro ⟨Hf, Hy, -⟩
      isplitl [Hy]; · iexact Hy
      iexact Hf
    · rw [if_neg h, if_pos (by simp [used]; omega), if_neg (by simp [used]; omega), recv_done m c (.z, r) (by show Leg.z ≠ Leg.x; decide)]
      iintro ⟨Hf, -, Hz⟩
      isplitl [Hf]; · iexact Hf
      iexact Hz
  rw [hx, hf]
  iintro ⟨Hm, ⟨Sx, Sy, Sz, Sf⟩, ⟨Gx, Gy, Gz, Gf⟩⟩
  ihave Hq := hyz $$ [Sy Sz]
  · isplitl [Sy] <;> iassumption
  ihave Hm := hm $$ [Hm Sx]
  · isplitl [Hm] <;> iassumption
  ihave Hyz := hfy $$ [Sf Gy Gz]
  · isplitl [Sf]; · iexact Sf
    isplitl [Gy] <;> iassumption
  icases Hyz with ⟨Hy, Hz⟩
  isplitl [Hq Hy Hz Gf]
  · isplitl [Hq]; · iexact Hq
    isplitl [Hy]; · iexact Hy
    isplitl [Hz] <;> iassumption
  isplitl [Hm] <;> iassumption

/-- Every copy over: the result is the whole sum, and every semaphore is back at zero. -/
theorem closing : iprop(sts m c true (hst 96) ∗ mine m c)
    ⊢ iprop(ownsTc c oM fullShare (outF m c) ∗ ownsTc c mM fullShare (xq m c) ∗ ownsTc c vM fullShare (xq m (xp c))
        ∗ bigSep Finset.univ (quiet (F := F) c)) := by
  have h1 : sts m c true (hst 96) ⊢ iprop(bigSep Finset.univ (quiet (F := F) c) ∗ bigSep Finset.univ (fun t => srcPts m t c) ∗ bigSep Finset.univ (got m c)) := by
    unfold sts
    refine (each fun t _ => stat_end m c true t).trans ?_
    rw [bigSep_sep', bigSep_sep']
  have h2 : iprop(mine m c ∗ bigSep Finset.univ (fun t => srcPts m t c) ∗ bigSep Finset.univ (got m c))
      ⊢ iprop(bigSep Finset.univ (fun t : Tr => done m c (qs c t.1) t.2) ∗ bigSep Finset.univ (fun r : Fin 8 => (ownsTc c (mV r) fullShare (xch m c r) : sProp 𝕄))
        ∗ bigSep Finset.univ (fun r : Fin 8 => (ownsTc c (vV r) fullShare (xch m (xp c) r) : sProp 𝕄))) := by
    rw [legs, legs (got m c), legs (fun t : Tr => done m c (qs c t.1) t.2)]
    unfold mine
    rw [← bigSep_sep', ← bigSep_sep', ← bigSep_sep', ← bigSep_sep']
    exact each fun r _ => chunk_end m c r
  iintro ⟨HS, Hm⟩
  ihave H := h1 $$ HS
  icases H with ⟨Hq, Hs, Hg⟩
  ihave H := h2 $$ [Hm Hs Hg]
  · isplitl [Hm]; · iexact Hm
    isplitl [Hs] <;> iassumption
  icases H with ⟨Ho, Hm, Hv⟩
  isplitl [Ho]; · iapply (out_join m c); iexact Ho
  isplitl [Hm]; · iapply (mine_join m c c); iexact Hm
  isplitl [Hv]; · iapply (theirs_join m c (xp c)); iexact Hv
  iexact Hq

/-- Nothing is owed then. -/
theorem owed_end : owedT c (hst 96) = 0 := by
  unfold owedT
  refine Finset.sum_eq_zero fun t ht => absurd (Finset.mem_filter.mp ht).2 ?_
  rw [hst_end]
  split <;> decide

end Cert.KernelIdealProof
-- ==== Proof.KernelIdealOpening.lean ====
module

/- The kernel's pieces up to the first chunk's arrival: the local copy, the announcements and the waits on the barrier. -/

public import proofs.«01_k».proof.Proof.KernelIdealPlaces

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ) (c : Dev nD)

variable (B : Dev nD → ℕ)

/-- What a device owes at the start: its three announcements, and the arrivals of all its copies; -/
abbrev owed₀ : CellTallies nD τ sig Unit :=
  owedT c (hst 0) + tallyAt (barCell (zp c)) () 1 + tallyAt (barCell (yp c)) () 1 + tallyAt (barCell (xp c)) () 3
/-- once the announcement across `x` is made. -/
abbrev owed₁ : CellTallies nD τ sig Unit :=
  owedT c (hst 0) + tallyAt (barCell (zp c)) () 1 + tallyAt (barCell (yp c)) () 1

/-- The start of the local copy, and the announcement across `x`. -/
theorem run_part1 (Q : (Σ' (d0 : Dev nD) (v2 : BitVec 32) (v5 : BitVec 32) (v8 : BitVec 32) (v9 : BitVec 32) (v10 : BitVec 32) (v11 : BitVec 32) (v14 : BitVec 32) (v18 : BitVec 32) (v22 : BitVec 32) (v24 : Sems sig S_), BitVec 32) → sProp 𝕄) :
    recs m K ⊢ iprop(bars (F := F) B -∗ argPts m c -∗ (∃ X : S512x512.Idx → Elt F .f32, ownsTc c mM fullShare X) -∗ dutyTok ER (kcell c none) 0 0
      -∗ (∃ W, owes (c : Thread nD τ) (owed₀ c) W) -∗ dutyTok ER (barCell (xp c)) 0 0 -∗ bpay (F := F) (xp c) 0
      -∗ (∀ v2 v5 v8 v9 v10 v11 v14 v18 v22 v31, cred (tallyAt (kcell c none) () NL) -∗ (∃ W, owes (c : Thread nD τ) (owed₁ c) W)
          -∗ Q ⟨c, v2, v5, v8, v9, v10, v11, v14, v18, v22, SemArray.scalar (sig.barrier 0 rfl), v31⟩)
      -∗ Runs c (onBufs k0_part1) Q) := by
  simp only [onBufs, k0_part1_eq_skeleton]
  unfold k0_part1_skel
  simp only [semSignalWord, Prog.lift, Prog.bind_op, Prog.bind_ret, Prog.pure_eq_ret, wp_deviceId]
  iintro #Hr #HB Ha Hm Ht HO Hx Hp Hk
  iapply (step_load_start m K c rfl rfl) $$ [Ha Hm Ht]
  · isplitr; · iexact Hr
    isplitl [Ha]; · iexact Ha
    isplitl [Hm] <;> iassumption
  iintro Hc
  iapply (step_signal B c 0 (p := xp c) (Fin.ext (k0_dev1_eq c)) rfl (O₀ := owed₀ c) (owed₁ c) rfl) $$ [HO Hx Hp]
  · isplitr; · iexact HB
    isplitl [HO]; · iexact HO
    isplitl [Hx] <;> iassumption
  iintro HO
  iapply run_ret
  iapply Hk $$ Hc HO

/-- The other two announcements, the first wait on the barrier, the wait for the local copy, and the send of chunk 0 across `x`. -/
theorem run_part2 (v2 v5 v8 v9 v10 v11 v31 : BitVec 32) (Q : (Σ' (_ : BitVec 32), BitVec 32) → sProp 𝕄) :
    recs m K ⊢ iprop(bars (F := F) B -∗ levAts L lv -∗ cred (tallyAt (kcell c none) () NL) -∗ (∃ W, owes (c : Thread nD τ) (owed₁ c) W)
      -∗ (dutyTok ER (barCell (yp c)) 0 1 ∗ bpay (F := F) (yp c) 1) -∗ (dutyTok ER (barCell (zp c)) 0 2 ∗ bpay (F := F) (zp c) 2)
      -∗ (atPos ER (barCell c) 0 ∅ 0 ∗ cred (tallyAt (barCell c) () 3) ∗ cred (tallyAt (barCell c) () 2))
      -∗ atPos ER (kcell c none) 0 ∅ 0 -∗ bigSep Finset.univ (toks (F := F) c)
      -∗ (St m K c false (hst 1) -∗ unsent m c 1 -∗ mine m c -∗ heard (F := F) c -∗ semVal (kcell c none) 0 -∗ argPts m c -∗ ∀ a, Q a)
      -∗ Runs c (onBufs k0_part2 c v2 v5 v8 v9 v10 v11 (SemArray.scalar (sig.barrier 0 rfl)) v31) Q) := by
  simp only [onBufs, k0_part2_eq_skeleton]
  unfold k0_part2_skel
  simp only [semSignalWord, semWaitWord, Prog.lift, Prog.bind_op, Prog.bind_ret, Prog.pure_eq_ret]
  iintro #Hr #HB #Hl Hc HO ⟨Hty, Hpy⟩ ⟨Htz, Hpz⟩ ⟨Hat, Hc3, Hc2⟩ Hak Htoks Hk
  iapply (step_signal B c 1 (p := yp c) (Fin.ext (k0_dev2_eq c)) rfl (O₀ := owed₁ c) (owedT c (hst 0) + tallyAt (barCell (zp c)) () 1) rfl) $$ [HO Hty Hpy]
  · isplitr; · iexact HB
    isplitl [HO]; · iexact HO
    isplitl [Hty] <;> iassumption
  iintro HO
  iapply (step_signal B c 2 (p := zp c) (Fin.ext (k0_dev3_eq c)) rfl (O₀ := owedT c (hst 0) + tallyAt (barCell (zp c)) () 1) (owedT c (hst 0)) rfl) $$ [HO Htz Hpz]
  · isplitr; · iexact HB
    isplitl [HO]; · iexact HO
    isplitl [Htz] <;> iassumption
  iintro HO
  iapply (step_wait_three B c (hst 0) rfl) $$ [HO Hat Hc3 Hc2]
  · isplitr; · iexact HB
    isplitr; · iexact Hl
    isplitl [HO]; · iexact HO
    isplitl [Hat]; · iexact Hat
    isplitl [Hc3] <;> iassumption
  iintro ⟨HO, Hp, Hh⟩
  iapply (step_load_wait m K c rfl (hst 0)) $$ [Hc HO Hak]
  · isplitr; · iexact Hr
    isplitr; · iexact Hl
    isplitl [Hc]; · iexact Hc
    isplitl [HO] <;> iassumption
  iintro ⟨HO, Hz, Hm, Ha⟩
  ihave Hm := (quarter m c) $$ Hm
  icases Hm with ⟨Hm, Hu⟩
  ihave HS := (sts_first m c) $$ [Htoks Hp]
  · isplitl [Htoks] <;> iassumption
  ihave HS : St m K c false (hst 0) $$ [HO HS]
  · unfold St
    isplitr; · iexact Hr
    isplitr; · iexact Hl
    isplitl [HO] <;> iassumption
  iapply (xsend_at m K c 0 0 rfl (Fin.ext (k0_dev4_eq c)) rfl rfl rfl rfl) $$ HS Hu; iintro HS Hu
  iapply run_ret
  iapply Hk $$ HS Hu Hm Hh Hz Ha

/-- Only copies of legs other than `x` are owed after the sends across `x`. -/
theorem above_bar (t : Tr) (h : hst 8 t = 0) : 1 < legLv t.1 := one_lt_legLv t.1

/-- The last two sends across `x`, the second wait on the barrier, the wait for chunk 0 and the load of the device's own chunk 0. -/
theorem run_part5 (v5 v8 v9 v14 : BitVec 32) (Q : (Σ' (_ : BitVec 32), Vec F S64x512 .f32) → sProp 𝕄) :
    St m K c false (hst 6) ⊢ iprop(unsent m c 6 -∗ mine m c -∗ bars (F := F) B -∗ heard (F := F) c
      -∗ (∀ v, St m K c true (hst 9) -∗ mine m c -∗ semVal (barCell c) 0 -∗ Q ⟨v, xch m c 0⟩)
      -∗ Runs c (onBufs k0_part5 c v5 v8 v9 v14 (SemArray.scalar (sig.barrier 0 rfl))) Q) := by
  simp only [onBufs, k0_part5_eq_skeleton]
  unfold k0_part5_skel
  simp only [semWaitWord, Prog.lift, Prog.bind_op, Prog.bind_ret, Prog.pure_eq_ret]
  iintro HS Hu Hm #HB Hh Hk
  iapply (xsend_at m K c 6 6 rfl (Fin.ext (k0_dev10_eq c)) rfl rfl rfl rfl) $$ HS Hu; iintro HS Hu
  iapply (xsend_at m K c 7 7 rfl (Fin.ext (k0_dev11_eq c)) rfl rfl rfl rfl) $$ HS Hu; iintro HS Hu
  ihave HS := (Entails.of_eq (show St m K c false (hst (7 + 1)) = iprop(recs m K ∗ levAts L lv ∗ (∃ W, owes (c : Thread nD τ) (owedT c (hst 8)) W) ∗ sts m c false (hst 8)) from rfl)) $$ HS
  icases HS with ⟨#Hr, #Hl, HO, HS⟩
  iapply (step_wait_two B c (hst 8) rfl above_bar) $$ [HO Hh]
  · isplitr; · iexact HB
    isplitr; · iexact Hl
    isplitl [HO] <;> iassumption
  iintro ⟨HO, H1, H2, Hz⟩
  ihave HS := (sts_all m c) $$ [HS H1 H2]
  · isplitl [HS]; · iexact HS
    isplitl [H1] <;> iassumption
  ihave HS : St m K c true (hst 8) $$ [HO HS]
  · unfold St
    isplitr; · iexact Hr
    isplitr; · iexact Hl
    isplitl [HO] <;> iassumption
  iapply (recv_at m K c (.x, 0) 8 rfl rfl) $$ HS; iintro HS
  iapply (load_mine m c 0) $$ Hm; iintro Hm
  iapply run_ret
  iapply Hk $$ HS Hm Hz

end Cert.KernelIdealProof
-- ==== Proof.KernelIdealSumParts.lean ====
module

/- The kernel's pieces from the sends across `x` to the last chunk's sum, each run from the device's record before its first step to
   the record after its last. -/

public import proofs.«01_k».proof.Proof.KernelIdealWords

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ) (c : Dev nD)

/-- The sends of chunks 1 to 3 across `x`. -/
theorem run_part3 (v5 v8 v9 v59 w : BitVec 32) (Q : PUnit → sProp 𝕄) :
    St m K c false (hst 1) ⊢ iprop(unsent m c 1 -∗ (St m K c false (hst 4) -∗ unsent m c 4 -∗ Q ⟨⟩)
      -∗ Runs c (onBufs k0_part3 c v5 v8 v9 v59 w) Q) := by
  simp only [onBufs, k0_part3_eq_skeleton]
  unfold k0_part3_skel
  simp only [Prog.lift, Prog.bind_op, Prog.bind_ret, Prog.pure_eq_ret]
  iintro HS Hu Hk
  iapply (xsend_at m K c 1 1 rfl (Fin.ext (k0_dev5_eq c)) rfl rfl rfl rfl) $$ HS Hu; iintro HS Hu
  iapply (xsend_at m K c 2 2 rfl (Fin.ext (k0_dev6_eq c)) rfl rfl rfl rfl) $$ HS Hu; iintro HS Hu
  iapply (xsend_at m K c 3 3 rfl (Fin.ext (k0_dev7_eq c)) rfl rfl rfl rfl) $$ HS Hu; iintro HS Hu
  iapply run_ret
  iapply Hk $$ HS Hu

/-- Of chunks 4 and 5. -/
theorem run_part4 (v5 v8 v9 : BitVec 32) (Q : PUnit → sProp 𝕄) :
    St m K c false (hst 4) ⊢ iprop(unsent m c 4 -∗ (St m K c false (hst 6) -∗ unsent m c 6 -∗ Q ⟨⟩)
      -∗ Runs c (onBufs k0_part4 c v5 v8 v9) Q) := by
  simp only [onBufs, k0_part4_eq_skeleton]
  unfold k0_part4_skel
  simp only [Prog.lift, Prog.bind_op, Prog.bind_ret, Prog.pure_eq_ret]
  iintro HS Hu Hk
  iapply (xsend_at m K c 4 4 rfl (Fin.ext (k0_dev8_eq c)) rfl rfl rfl rfl) $$ HS Hu; iintro HS Hu
  iapply (xsend_at m K c 5 5 rfl (Fin.ext (k0_dev9_eq c)) rfl rfl rfl rfl) $$ HS Hu; iintro HS Hu
  iapply run_ret
  iapply Hk $$ HS Hu

/-- Chunk 0: the sum of the device's own chunk, already loaded, and of the one that arrived, stored and sent across `y` and `z`. -/
theorem run_part6 (v2 v5 v8 v9 v10 v11 v150 : BitVec 32) (Q : (Σ' (_ : BitVec 32), BitVec 32) → sProp 𝕄) :
    St m K c true (hst 9) ⊢ iprop(mine m c -∗ blank (F := F) c 0 -∗ (St m K c true (hst 11) -∗ mine m c -∗ blank (F := F) c 1 -∗ ∀ a, Q a)
      -∗ Runs c (onBufs k0_part6 c v2 v5 v8 v9 v10 v11 v150 (xch m c 0)) Q) := by
  simp only [onBufs, k0_part6_eq_skeleton]
  unfold k0_part6_skel
  simp only [Prog.lift, Prog.bind_op, Prog.bind_ret, Prog.pure_eq_ret]
  iintro HS Hm Hb Hk
  iapply (load_arrived m K c 0 (hst 9) (hst_sum 0)) $$ HS; iintro HS
  iapply (load_blank c 0 0 rfl (off2_own c 0)) $$ Hb; iintro Hb
  iapply (store_sum m c 0 0 rfl (off2_own c 0) rfl) $$ Hb; iintro ⟨Hb, Hy, Hz⟩
  iapply (send_at m K c true (.y, 0) 9 rfl (by decide) (.inl rfl) (Fin.ext (k0_dev12_eq c)) (own_src c 0 _) (own_src c 0 _) rfl rfl) $$ HS Hy; iintro HS
  iapply (send_at m K c true (.z, 0) 10 rfl (by decide) (.inl rfl) (Fin.ext (k0_dev13_eq c)) (own_src c 0 _) (own_src c 0 _) rfl rfl) $$ HS Hz; iintro HS
  iapply run_ret
  iapply Hk $$ HS Hm Hb

/-- Chunk 1: the wait, the sum, the send across `y`. -/
theorem run_part7 (v2 v5 v8 v10 v11 v14 v183 w : BitVec 32) (Q : PUnit → sProp 𝕄) :
    St m K c true (hst 11) ⊢ iprop(mine m c -∗ blank (F := F) c 1 -∗ (St m K c true (hst 13) -∗ mine m c -∗ blank (F := F) c 2 -∗ srcPts m (.z, 1) c -∗ Q ⟨⟩)
      -∗ Runs c (onBufs k0_part7 c v2 v5 v8 v10 v11 v14 v183 w) Q) := by
  simp only [onBufs, k0_part7_eq_skeleton]
  unfold k0_part7_skel
  simp only [Prog.lift, Prog.bind_op, Prog.bind_ret, Prog.pure_eq_ret]
  iintro HS Hm Hb Hk
  iapply (recv_at m K c (.x, 1) 11 rfl rfl) $$ HS; iintro HS
  iapply (load_mine m c 1) $$ Hm; iintro Hm
  iapply (load_arrived m K c 1 (hst 12) (hst_sum 1)) $$ HS; iintro HS
  iapply (load_blank c 1 1 rfl (off2_own c 1)) $$ Hb; iintro Hb
  iapply (store_sum m c 1 1 rfl (off2_own c 1) rfl) $$ Hb; iintro ⟨Hb, Hy, Hz⟩
  iapply (send_at m K c true (.y, 1) 12 rfl (by decide) (.inl rfl) (Fin.ext (k0_dev14_eq c)) (own_src c 1 _) (own_src c 1 _) rfl rfl) $$ HS Hy; iintro HS
  iapply run_ret
  iapply Hk $$ HS Hm Hb Hz

/-- Its send across `z`; chunk 2: the wait and the sum. -/
theorem run_part8 (v2 v5 v8 v9 v10 v14 : BitVec 32) (Q : PUnit → sProp 𝕄) :
    St m K c true (hst 13) ⊢ iprop(mine m c -∗ blank (F := F) c 2 -∗ srcPts m (.z, 1) c -∗ (St m K c true (hst 15) -∗ mine m c -∗ blank (F := F) c 3 -∗ srcPts m (.y, 2) c -∗ srcPts m (.z, 2) c -∗ Q ⟨⟩)
      -∗ Runs c (onBufs k0_part8 c v2 v5 v8 v9 v10 v14) Q) := by
  simp only [onBufs, k0_part8_eq_skeleton]
  unfold k0_part8_skel
  simp only [Prog.lift, Prog.bind_op, Prog.bind_ret, Prog.pure_eq_ret]
  iintro HS Hm Hb Hz Hk
  iapply (send_at m K c true (.z, 1) 13 rfl (by decide) (.inl rfl) (Fin.ext (k0_dev15_eq c)) (own_src c 1 _) (own_src c 1 _) rfl rfl) $$ HS Hz; iintro HS
  iapply (recv_at m K c (.x, 2) 14 rfl rfl) $$ HS; iintro HS
  iapply (load_mine m c 2) $$ Hm; iintro Hm
  iapply (load_arrived m K c 2 (hst 15) (hst_sum 2)) $$ HS; iintro HS
  iapply (load_blank c 2 2 rfl (off2_own c 2)) $$ Hb; iintro Hb
  iapply (store_sum m c 2 2 rfl (off2_own c 2) rfl) $$ Hb; iintro ⟨Hb, Hy, Hz⟩
  iapply run_ret
  iapply Hk $$ HS Hm Hb Hy Hz

/-- Chunk 2 sent across `y` and `z`; chunk 3: the wait and the sum. -/
theorem run_part9 (v2 v5 v8 v9 v11 v14 : BitVec 32) (Q : BitVec 32 → sProp 𝕄) :
    St m K c true (hst 15) ⊢ iprop(mine m c -∗ blank (F := F) c 3 -∗ srcPts m (.y, 2) c -∗ srcPts m (.z, 2) c -∗ (St m K c true (hst 18) -∗ mine m c -∗ blank (F := F) c 4 -∗ srcPts m (.y, 3) c -∗ srcPts m (.z, 3) c -∗ ∀ a, Q a)
      -∗ Runs c (onBufs k0_part9 c v2 v5 v8 v9 v11 v14) Q) := by
  simp only [onBufs, k0_part9_eq_skeleton]
  unfold k0_part9_skel
  simp only [Prog.lift, Prog.bind_op, Prog.bind_ret, Prog.pure_eq_ret]
  iintro HS Hm Hb Hy Hz Hk
  iapply (send_at m K c true (.y, 2) 15 rfl (by decide) (.inl rfl) (Fin.ext (k0_dev16_eq c)) (own_src c 2 _) (own_src c 2 _) rfl rfl) $$ HS Hy; iintro HS
  iapply (send_at m K c true (.z, 2) 16 rfl (by decide) (.inl rfl) (Fin.ext (k0_dev17_eq c)) (own_src c 2 _) (own_src c 2 _) rfl rfl) $$ HS Hz; iintro HS
  iapply (recv_at m K c (.x, 3) 17 rfl rfl) $$ HS; iintro HS
  iapply (load_mine m c 3) $$ Hm; iintro Hm
  iapply (load_arrived m K c 3 (hst 18) (hst_sum 3)) $$ HS; iintro HS
  iapply (load_blank c 3 3 rfl (off2_own c 3)) $$ Hb; iintro Hb
  iapply (store_sum m c 3 3 rfl (off2_own c 3) rfl) $$ Hb; iintro ⟨Hb, Hy, Hz⟩
  iapply run_ret
  iapply Hk $$ HS Hm Hb Hy Hz

/-- Chunk 3 sent across `y` and `z`; the wait for chunk 4. -/
theorem run_part10 (v2 v5 v8 v9 v10 v11 v276 : BitVec 32) (Q : BitVec 32 → sProp 𝕄) :
    St m K c true (hst 18) ⊢ iprop(srcPts m (.y, 3) c -∗ srcPts m (.z, 3) c -∗ (St m K c true (hst 21) -∗ ∀ a, Q a)
      -∗ Runs c (onBufs k0_part10 c v2 v5 v8 v9 v10 v11 v276) Q) := by
  simp only [onBufs, k0_part10_eq_skeleton]
  unfold k0_part10_skel
  simp only [Prog.lift, Prog.bind_op, Prog.bind_ret, Prog.pure_eq_ret]
  iintro HS Hy Hz Hk
  iapply (send_at m K c true (.y, 3) 18 rfl (by decide) (.inl rfl) (Fin.ext (k0_dev18_eq c)) (own_src c 3 _) (own_src c 3 _) rfl rfl) $$ HS Hy; iintro HS
  iapply (send_at m K c true (.z, 3) 19 rfl (by decide) (.inl rfl) (Fin.ext (k0_dev19_eq c)) (own_src c 3 _) (own_src c 3 _) rfl rfl) $$ HS Hz; iintro HS
  iapply (recv_at m K c (.x, 4) 20 rfl rfl) $$ HS; iintro HS
  iapply run_ret
  iapply Hk $$ HS

/-- Chunk 4: the sum, and its sends across `y` and `z`. -/
theorem run_part11 (v2 v5 v8 v9 v10 v11 v14 w : BitVec 32) (Q : BitVec 32 → sProp 𝕄) :
    St m K c true (hst 21) ⊢ iprop(mine m c -∗ blank (F := F) c 4 -∗ (St m K c true (hst 23) -∗ mine m c -∗ blank (F := F) c 5 -∗ ∀ a, Q a)
      -∗ Runs c (onBufs k0_part11 c v2 v5 v8 v9 v10 v11 v14 w) Q) := by
  simp only [onBufs, k0_part11_eq_skeleton]
  unfold k0_part11_skel
  simp only [Prog.lift, Prog.bind_op, Prog.bind_ret, Prog.pure_eq_ret]
  iintro HS Hm Hb Hk
  iapply (load_mine m c 4) $$ Hm; iintro Hm
  iapply (load_arrived m K c 4 (hst 21) (hst_sum 4)) $$ HS; iintro HS
  iapply (load_blank c 4 4 rfl (off2_own c 4)) $$ Hb; iintro Hb
  iapply (store_sum m c 4 4 rfl (off2_own c 4) rfl) $$ Hb; iintro ⟨Hb, Hy, Hz⟩
  iapply (send_at m K c true (.y, 4) 21 rfl (by decide) (.inl rfl) (Fin.ext (k0_dev20_eq c)) (own_src c 4 _) (own_src c 4 _) rfl rfl) $$ HS Hy; iintro HS
  iapply (send_at m K c true (.z, 4) 22 rfl (by decide) (.inl rfl) (Fin.ext (k0_dev21_eq c)) (own_src c 4 _) (own_src c 4 _) rfl rfl) $$ HS Hz; iintro HS
  iapply run_ret
  iapply Hk $$ HS Hm Hb

/-- Chunk 5: the wait, the sum, the send across `y`. -/
theorem run_part12 (v2 v5 v8 v10 v11 v14 v341 : BitVec 32) (Q : (Σ' (_ : BitVec 32), BitVec 32) → sProp 𝕄) :
    St m K c true (hst 23) ⊢ iprop(mine m c -∗ blank (F := F) c 5 -∗ (St m K c true (hst 25) -∗ mine m c -∗ blank (F := F) c 6 -∗ srcPts m (.z, 5) c -∗ ∀ a, Q a)
      -∗ Runs c (onBufs k0_part12 c v2 v5 v8 v10 v11 v14 v341) Q) := by
  simp only [onBufs, k0_part12_eq_skeleton]
  unfold k0_part12_skel
  simp only [Prog.lift, Prog.bind_op, Prog.bind_ret, Prog.pure_eq_ret]
  iintro HS Hm Hb Hk
  iapply (recv_at m K c (.x, 5) 23 rfl rfl) $$ HS; iintro HS
  iapply (load_mine m c 5) $$ Hm; iintro Hm
  iapply (load_arrived m K c 5 (hst 24) (hst_sum 5)) $$ HS; iintro HS
  iapply (load_blank c 5 5 rfl (off2_own c 5)) $$ Hb; iintro Hb
  iapply (store_sum m c 5 5 rfl (off2_own c 5) rfl) $$ Hb; iintro ⟨Hb, Hy, Hz⟩
  iapply (send_at m K c true (.y, 5) 24 rfl (by decide) (.inl rfl) (Fin.ext (k0_dev22_eq c)) (own_src c 5 _) (own_src c 5 _) rfl rfl) $$ HS Hy; iintro HS
  iapply run_ret
  iapply Hk $$ HS Hm Hb Hz

/-- Its send across `z`; chunk 6: the wait and the sum. -/
theorem run_part13 (v2 v5 v8 v9 v10 v14 v371 v372 : BitVec 32) (Q : PUnit → sProp 𝕄) :
    St m K c true (hst 25) ⊢ iprop(mine m c -∗ blank (F := F) c 6 -∗ srcPts m (.z, 5) c -∗ (St m K c true (hst 27) -∗ mine m c -∗ blank (F := F) c 7 -∗ srcPts m (.y, 6) c -∗ srcPts m (.z, 6) c -∗ Q ⟨⟩)
      -∗ Runs c (onBufs k0_part13 c v2 v5 v8 v9 v10 v14 v371 v372) Q) := by
  simp only [onBufs, k0_part13_eq_skeleton]
  unfold k0_part13_skel
  simp only [Prog.lift, Prog.bind_op, Prog.bind_ret, Prog.pure_eq_ret]
  iintro HS Hm Hb Hz Hk
  iapply (send_at m K c true (.z, 5) 25 rfl (by decide) (.inl rfl) (Fin.ext (k0_dev23_eq c)) (own_src c 5 _) (own_src c 5 _) rfl rfl) $$ HS Hz; iintro HS
  iapply (recv_at m K c (.x, 6) 26 rfl rfl) $$ HS; iintro HS
  iapply (load_mine m c 6) $$ Hm; iintro Hm
  iapply (load_arrived m K c 6 (hst 27) (hst_sum 6)) $$ HS; iintro HS
  iapply (load_blank c 6 6 rfl (off2_own c 6)) $$ Hb; iintro Hb
  iapply (store_sum m c 6 6 rfl (off2_own c 6) rfl) $$ Hb; iintro ⟨Hb, Hy, Hz⟩
  iapply run_ret
  iapply Hk $$ HS Hm Hb Hy Hz

/-- Chunk 6 sent across `y` and `z`; chunk 7: the wait and the sum. -/
theorem run_part14 (v2 v5 v8 v9 v11 v14 : BitVec 32) (Q : PUnit → sProp 𝕄) :
    St m K c true (hst 27) ⊢ iprop(mine m c -∗ blank (F := F) c 7 -∗ srcPts m (.y, 6) c -∗ srcPts m (.z, 6) c -∗ (St m K c true (hst 30) -∗ mine m c -∗ blank (F := F) c 8 -∗ srcPts m (.y, 7) c -∗ srcPts m (.z, 7) c -∗ Q ⟨⟩)
      -∗ Runs c (onBufs k0_part14 c v2 v5 v8 v9 v11 v14) Q) := by
  simp only [onBufs, k0_part14_eq_skeleton]
  unfold k0_part14_skel
  simp only [Prog.lift, Prog.bind_op, Prog.bind_ret, Prog.pure_eq_ret]
  iintro HS Hm Hb Hy Hz Hk
  iapply (send_at m K c true (.y, 6) 27 rfl (by decide) (.inl rfl) (Fin.ext (k0_dev24_eq c)) (own_src c 6 _) (own_src c 6 _) rfl rfl) $$ HS Hy; iintro HS
  iapply (send_at m K c true (.z, 6) 28 rfl (by decide) (.inl rfl) (Fin.ext (k0_dev25_eq c)) (own_src c 6 _) (own_src c 6 _) rfl rfl) $$ HS Hz; iintro HS
  iapply (recv_at m K c (.x, 7) 29 rfl rfl) $$ HS; iintro HS
  iapply (load_mine m c 7) $$ Hm; iintro Hm
  iapply (load_arrived m K c 7 (hst 30) (hst_sum 7)) $$ HS; iintro HS
  iapply (load_blank c 7 7 rfl (off2_own c 7)) $$ Hb; iintro Hb
  iapply (store_sum m c 7 7 rfl (off2_own c 7) rfl) $$ Hb; iintro ⟨Hb, Hy, Hz⟩
  iapply run_ret
  iapply Hk $$ HS Hm Hb Hy Hz

/-- Chunk 7 sent across `y` and `z`. -/
theorem run_part15 (v2 v5 v8 v10 v11 v22 : BitVec 32) (Q : PUnit → sProp 𝕄) :
    St m K c true (hst 30) ⊢ iprop(srcPts m (.y, 7) c -∗ srcPts m (.z, 7) c -∗ (St m K c true (hst 32) -∗ Q ⟨⟩)
      -∗ Runs c (onBufs k0_part15 c v2 v5 v8 v10 v11 v22) Q) := by
  simp only [onBufs, k0_part15_eq_skeleton]
  unfold k0_part15_skel
  simp only [Prog.lift, Prog.bind_op, Prog.bind_ret, Prog.pure_eq_ret]
  iintro HS Hy Hz Hk
  iapply (send_at m K c true (.y, 7) 30 rfl (by decide) (.inl rfl) (Fin.ext (k0_dev26_eq c)) (own_src c 7 _) (own_src c 7 _) rfl rfl) $$ HS Hy; iintro HS
  iapply (send_at m K c true (.z, 7) 31 rfl (by decide) (.inl rfl) (Fin.ext (k0_dev27_eq c)) (own_src c 7 _) (own_src c 7 _) rfl rfl) $$ HS Hz; iintro HS
  iapply run_ret
  iapply Hk $$ HS

end Cert.KernelIdealProof
-- ==== Proof.KernelIdealWaitParts.lean ====
module

/- The kernel's pieces from the first forwarded chunk to the end, each run from the device's record before its first step to the record
   after its last. -/

public import proofs.«01_k».proof.Proof.KernelIdealWords

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ) (c : Dev nD)

/-- Chunk 0 from across `z`, forwarded across `y`; the wait for chunk 1. -/
theorem run_part16 (v2 v5 v8 v10 v11 v22 : BitVec 32) (Q : (Σ' (_ : BitVec 32), BitVec 32) → sProp 𝕄) :
    St m K c true (hst 32) ⊢ iprop((St m K c true (hst 35) -∗ ∀ a, Q a)
      -∗ Runs c (onBufs k0_part16 c v2 v5 v8 v10 v11 v22) Q) := by
  simp only [onBufs, k0_part16_eq_skeleton]
  unfold k0_part16_skel
  simp only [Prog.lift, Prog.bind_op, Prog.bind_ret, Prog.pure_eq_ret]
  iintro HS Hk
  iapply (recv_at m K c (.z, 0) 32 rfl rfl) $$ HS; iintro HS
  iapply (fwd_at m K c 0 33 rfl (Fin.ext (k0_dev28_eq c)) (z_src c 0 (by decide) _) (z_src c 0 (by decide) _) rfl rfl) $$ HS; iintro HS
  iapply (recv_at m K c (.z, 1) 34 rfl rfl) $$ HS; iintro HS
  iapply run_ret
  iapply Hk $$ HS

/-- Chunk 1 forwarded; chunk 2 likewise. -/
theorem run_part17 (v2 v5 v8 v10 v11 v22 v499 w : BitVec 32) (Q : PUnit → sProp 𝕄) :
    St m K c true (hst 35) ⊢ iprop((St m K c true (hst 38) -∗ Q ⟨⟩)
      -∗ Runs c (onBufs k0_part17 c v2 v5 v8 v10 v11 v22 v499 w) Q) := by
  simp only [onBufs, k0_part17_eq_skeleton]
  unfold k0_part17_skel
  simp only [Prog.lift, Prog.bind_op, Prog.bind_ret, Prog.pure_eq_ret]
  iintro HS Hk
  iapply (fwd_at m K c 1 35 rfl (Fin.ext (k0_dev29_eq c)) (z_src c 1 (by decide) _) (z_src c 1 (by decide) _) rfl rfl) $$ HS; iintro HS
  iapply (recv_at m K c (.z, 2) 36 rfl rfl) $$ HS; iintro HS
  iapply (fwd_at m K c 2 37 rfl (Fin.ext (k0_dev30_eq c)) (z_src c 2 (by decide) _) (z_src c 2 (by decide) _) rfl rfl) $$ HS; iintro HS
  iapply run_ret
  iapply Hk $$ HS

/-- Chunk 3 likewise. -/
theorem run_part18 (v2 v5 v8 v10 v11 v18 v22 : BitVec 32) (Q : (Σ' (_ : BitVec 32), BitVec 32) → sProp 𝕄) :
    St m K c true (hst 38) ⊢ iprop((St m K c true (hst 40) -∗ ∀ a, Q a)
      -∗ Runs c (onBufs k0_part18 c v2 v5 v8 v10 v11 v18 v22) Q) := by
  simp only [onBufs, k0_part18_eq_skeleton]
  unfold k0_part18_skel
  simp only [Prog.lift, Prog.bind_op, Prog.bind_ret, Prog.pure_eq_ret]
  iintro HS Hk
  iapply (recv_at m K c (.z, 3) 38 rfl rfl) $$ HS; iintro HS
  iapply (fwd_at m K c 3 39 rfl (Fin.ext (k0_dev31_eq c)) (z_src c 3 (by decide) _) (z_src c 3 (by decide) _) rfl rfl) $$ HS; iintro HS
  iapply run_ret
  iapply Hk $$ HS

/-- Chunk 4 from across `y`, forwarded across `z`; the wait for chunk 5. -/
theorem run_part19 (v2 v5 v8 v10 v11 v18 v565 w : BitVec 32) (Q : BitVec 32 → sProp 𝕄) :
    St m K c true (hst 40) ⊢ iprop((St m K c true (hst 43) -∗ ∀ a, Q a)
      -∗ Runs c (onBufs k0_part19 c v2 v5 v8 v10 v11 v18 v565 w) Q) := by
  simp only [onBufs, k0_part19_eq_skeleton]
  unfold k0_part19_skel
  simp only [Prog.lift, Prog.bind_op, Prog.bind_ret, Prog.pure_eq_ret]
  iintro HS Hk
  iapply (recv_at m K c (.y, 4) 40 rfl rfl) $$ HS; iintro HS
  iapply (fwd_at m K c 4 41 rfl (Fin.ext (k0_dev32_eq c)) (y_src c 4 (by decide) _) (y_src c 4 (by decide) _) rfl rfl) $$ HS; iintro HS
  iapply (recv_at m K c (.y, 5) 42 rfl rfl) $$ HS; iintro HS
  iapply run_ret
  iapply Hk $$ HS

/-- Chunk 5 forwarded; the wait for chunk 6. -/
theorem run_part20 (v2 v5 v8 v10 v11 v18 w : BitVec 32) (Q : PUnit → sProp 𝕄) :
    St m K c true (hst 43) ⊢ iprop((St m K c true (hst 45) -∗ Q ⟨⟩)
      -∗ Runs c (onBufs k0_part20 c v2 v5 v8 v10 v11 v18 w) Q) := by
  simp only [onBufs, k0_part20_eq_skeleton]
  unfold k0_part20_skel
  simp only [Prog.lift, Prog.bind_op, Prog.bind_ret, Prog.pure_eq_ret]
  iintro HS Hk
  iapply (fwd_at m K c 5 43 rfl (Fin.ext (k0_dev33_eq c)) (y_src c 5 (by decide) _) (y_src c 5 (by decide) _) rfl rfl) $$ HS; iintro HS
  iapply (recv_at m K c (.y, 6) 44 rfl rfl) $$ HS; iintro HS
  iapply run_ret
  iapply Hk $$ HS

/-- Chunk 6 forwarded; chunk 7 likewise. -/
theorem run_part21 (v2 v5 v8 v10 v11 v18 : BitVec 32) (Q : BitVec 32 → sProp 𝕄) :
    St m K c true (hst 45) ⊢ iprop((St m K c true (hst 48) -∗ ∀ a, Q a)
      -∗ Runs c (onBufs k0_part21 c v2 v5 v8 v10 v11 v18) Q) := by
  simp only [onBufs, k0_part21_eq_skeleton]
  unfold k0_part21_skel
  simp only [Prog.lift, Prog.bind_op, Prog.bind_ret, Prog.pure_eq_ret]
  iintro HS Hk
  iapply (fwd_at m K c 6 45 rfl (Fin.ext (k0_dev34_eq c)) (y_src c 6 (by decide) _) (y_src c 6 (by decide) _) rfl rfl) $$ HS; iintro HS
  iapply (recv_at m K c (.y, 7) 46 rfl rfl) $$ HS; iintro HS
  iapply (fwd_at m K c 7 47 rfl (Fin.ext (k0_dev35_eq c)) (y_src c 7 (by decide) _) (y_src c 7 (by decide) _) rfl rfl) $$ HS; iintro HS
  iapply run_ret
  iapply Hk $$ HS

/-- The waits for chunks 0 to 2 from across `y`. -/
theorem run_part22 (v2 v8 v10 v18 v663 : BitVec 32) (Q : BitVec 32 → sProp 𝕄) :
    St m K c true (hst 48) ⊢ iprop((St m K c true (hst 51) -∗ ∀ a, Q a)
      -∗ Runs c (onBufs k0_part22 c v2 v8 v10 v18 v663) Q) := by
  simp only [onBufs, k0_part22_eq_skeleton]
  unfold k0_part22_skel
  simp only [Prog.lift, Prog.bind_op, Prog.bind_ret, Prog.pure_eq_ret]
  iintro HS Hk
  iapply (recv_at m K c (.y, 0) 48 rfl rfl) $$ HS; iintro HS
  iapply (recv_at m K c (.y, 1) 49 rfl rfl) $$ HS; iintro HS
  iapply (recv_at m K c (.y, 2) 50 rfl rfl) $$ HS; iintro HS
  iapply run_ret
  iapply Hk $$ HS

/-- For chunk 3, and for chunk 4 from across `z`. -/
theorem run_part23 (v2 v5 v8 v10 v11 v18 v22 w : BitVec 32) (Q : (Σ' (_ : BitVec 32), BitVec 32) → sProp 𝕄) :
    St m K c true (hst 51) ⊢ iprop((St m K c true (hst 53) -∗ ∀ a, Q a)
      -∗ Runs c (onBufs k0_part23 c v2 v5 v8 v10 v11 v18 v22 w) Q) := by
  simp only [onBufs, k0_part23_eq_skeleton]
  unfold k0_part23_skel
  simp only [Prog.lift, Prog.bind_op, Prog.bind_ret, Prog.pure_eq_ret]
  iintro HS Hk
  iapply (recv_at m K c (.y, 3) 51 rfl rfl) $$ HS; iintro HS
  iapply (recv_at m K c (.z, 4) 52 rfl rfl) $$ HS; iintro HS
  iapply run_ret
  iapply Hk $$ HS

/-- For chunks 5 to 7 from across `z`. -/
theorem run_part24 (v2 v5 v11 v22 v725 v726 : BitVec 32) (Q : BitVec 32 → sProp 𝕄) :
    St m K c true (hst 53) ⊢ iprop((St m K c true (hst 56) -∗ ∀ a, Q a)
      -∗ Runs c (onBufs k0_part24 c v2 v5 v11 v22 v725 v726) Q) := by
  simp only [onBufs, k0_part24_eq_skeleton]
  unfold k0_part24_skel
  simp only [Prog.lift, Prog.bind_op, Prog.bind_ret, Prog.pure_eq_ret]
  iintro HS Hk
  iapply (recv_at m K c (.z, 5) 53 rfl rfl) $$ HS; iintro HS
  iapply (recv_at m K c (.z, 6) 54 rfl rfl) $$ HS; iintro HS
  iapply (recv_at m K c (.z, 7) 55 rfl rfl) $$ HS; iintro HS
  iapply run_ret
  iapply Hk $$ HS

/-- Forwarded chunks 0 and 1: their arrivals, and the returns of the loans. -/
theorem run_part25 (v2 v8 v10 v757 : BitVec 32) (Q : (Σ' (_ : BitVec 32), BitVec 32) → sProp 𝕄) :
    St m K c true (hst 56) ⊢ iprop((St m K c true (hst 60) -∗ ∀ a, Q a)
      -∗ Runs c (onBufs k0_part25 c v2 v8 v10 v757) Q) := by
  simp only [onBufs, k0_part25_eq_skeleton]
  unfold k0_part25_skel
  simp only [Prog.lift, Prog.bind_op, Prog.bind_ret, Prog.pure_eq_ret]
  iintro HS Hk
  iapply (recv_at m K c (.f, 0) 56 rfl rfl) $$ HS; iintro HS
  iapply (back_at m K c (.f, 0) 57 rfl rfl) $$ HS; iintro HS
  iapply (recv_at m K c (.f, 1) 58 rfl rfl) $$ HS; iintro HS
  iapply (back_at m K c (.f, 1) 59 rfl rfl) $$ HS; iintro HS
  iapply run_ret
  iapply Hk $$ HS

/-- Chunks 2 and 3. -/
theorem run_part26 (v2 v5 v8 v10 v785 v786 : BitVec 32) (Q : (Σ' (_ : BitVec 32), BitVec 32) → sProp 𝕄) :
    St m K c true (hst 60) ⊢ iprop((St m K c true (hst 64) -∗ ∀ a, Q a)
      -∗ Runs c (onBufs k0_part26 c v2 v5 v8 v10 v785 v786) Q) := by
  simp only [onBufs, k0_part26_eq_skeleton]
  unfold k0_part26_skel
  simp only [Prog.lift, Prog.bind_op, Prog.bind_ret, Prog.pure_eq_ret]
  iintro HS Hk
  iapply (recv_at m K c (.f, 2) 60 rfl rfl) $$ HS; iintro HS
  iapply (back_at m K c (.f, 2) 61 rfl rfl) $$ HS; iintro HS
  iapply (recv_at m K c (.f, 3) 62 rfl rfl) $$ HS; iintro HS
  iapply (back_at m K c (.f, 3) 63 rfl rfl) $$ HS; iintro HS
  iapply run_ret
  iapply Hk $$ HS

/-- Chunks 4 and 5. -/
theorem run_part27 (v2 v5 v11 v815 w : BitVec 32) (Q : PUnit → sProp 𝕄) :
    St m K c true (hst 64) ⊢ iprop((St m K c true (hst 68) -∗ Q ⟨⟩)
      -∗ Runs c (onBufs k0_part27 c v2 v5 v11 v815 w) Q) := by
  simp only [onBufs, k0_part27_eq_skeleton]
  unfold k0_part27_skel
  simp only [Prog.lift, Prog.bind_op, Prog.bind_ret, Prog.pure_eq_ret]
  iintro HS Hk
  iapply (recv_at m K c (.f, 4) 64 rfl rfl) $$ HS; iintro HS
  iapply (back_at m K c (.f, 4) 65 rfl rfl) $$ HS; iintro HS
  iapply (recv_at m K c (.f, 5) 66 rfl rfl) $$ HS; iintro HS
  iapply (back_at m K c (.f, 5) 67 rfl rfl) $$ HS; iintro HS
  iapply run_ret
  iapply Hk $$ HS

/-- Chunks 6 and 7; then the first loan of leg `x` returned, -/
theorem run_part28 (v2 v5 v11 : BitVec 32) (Q : PUnit → sProp 𝕄) :
    St m K c true (hst 68) ⊢ iprop((St m K c true (hst 73) -∗ Q ⟨⟩)
      -∗ Runs c (onBufs k0_part28 c v2 v5 v11) Q) := by
  simp only [onBufs, k0_part28_eq_skeleton]
  unfold k0_part28_skel
  simp only [Prog.lift, Prog.bind_op, Prog.bind_ret, Prog.pure_eq_ret]
  iintro HS Hk
  iapply (recv_at m K c (.f, 6) 68 rfl rfl) $$ HS; iintro HS
  iapply (back_at m K c (.f, 6) 69 rfl rfl) $$ HS; iintro HS
  iapply (recv_at m K c (.f, 7) 70 rfl rfl) $$ HS; iintro HS
  iapply (back_at m K c (.f, 7) 71 rfl rfl) $$ HS; iintro HS
  iapply (back_at m K c (.x, 0) 72 rfl rfl) $$ HS; iintro HS
  iapply run_ret
  iapply Hk $$ HS

/-- the next five, -/
theorem run_part29 (Q : PUnit → sProp 𝕄) :
    St m K c true (hst 73) ⊢ iprop((St m K c true (hst 78) -∗ Q ⟨⟩)
      -∗ Runs c (onBufs k0_part29) Q) := by
  simp only [onBufs, k0_part29_eq_skeleton]
  unfold k0_part29_skel
  simp only [Prog.lift, Prog.bind_op, Prog.bind_ret, Prog.pure_eq_ret]
  iintro HS Hk
  iapply (back_at m K c (.x, 1) 73 rfl rfl) $$ HS; iintro HS
  iapply (back_at m K c (.x, 2) 74 rfl rfl) $$ HS; iintro HS
  iapply (back_at m K c (.x, 3) 75 rfl rfl) $$ HS; iintro HS
  iapply (back_at m K c (.x, 4) 76 rfl rfl) $$ HS; iintro HS
  iapply (back_at m K c (.x, 5) 77 rfl rfl) $$ HS; iintro HS
  iapply run_ret
  iapply Hk $$ HS

/-- the last two; then the loans of legs `y` and `z`. -/
theorem run_part30 (Q : PUnit → sProp 𝕄) :
    St m K c true (hst 78) ⊢ iprop((St m K c true (hst 83) -∗ Q ⟨⟩)
      -∗ Runs c (onBufs k0_part30 c) Q) := by
  simp only [onBufs, k0_part30_eq_skeleton]
  unfold k0_part30_skel
  simp only [Prog.lift, Prog.bind_op, Prog.bind_ret, Prog.pure_eq_ret]
  iintro HS Hk
  iapply (back_at m K c (.x, 6) 78 rfl rfl) $$ HS; iintro HS
  iapply (back_at m K c (.x, 7) 79 rfl rfl) $$ HS; iintro HS
  iapply (back_at m K c (.y, 0) 80 rfl rfl) $$ HS; iintro HS
  iapply (back_at m K c (.z, 0) 81 rfl rfl) $$ HS; iintro HS
  iapply (back_at m K c (.y, 1) 82 rfl rfl) $$ HS; iintro HS
  iapply run_ret
  iapply Hk $$ HS

/-- The loans of legs `y` and `z`, to chunk 4. -/
theorem run_part31 (Q : PUnit → sProp 𝕄) :
    St m K c true (hst 83) ⊢ iprop((St m K c true (hst 89) -∗ Q ⟨⟩)
      -∗ Runs c (onBufs k0_part31 c) Q) := by
  simp only [onBufs, k0_part31_eq_skeleton]
  unfold k0_part31_skel
  simp only [Prog.lift, Prog.bind_op, Prog.bind_ret, Prog.pure_eq_ret]
  iintro HS Hk
  iapply (back_at m K c (.z, 1) 83 rfl rfl) $$ HS; iintro HS
  iapply (back_at m K c (.y, 2) 84 rfl rfl) $$ HS; iintro HS
  iapply (back_at m K c (.z, 2) 85 rfl rfl) $$ HS; iintro HS
  iapply (back_at m K c (.y, 3) 86 rfl rfl) $$ HS; iintro HS
  iapply (back_at m K c (.z, 3) 87 rfl rfl) $$ HS; iintro HS
  iapply (back_at m K c (.y, 4) 88 rfl rfl) $$ HS; iintro HS
  iapply run_ret
  iapply Hk $$ HS

/-- The loans of legs `y` and `z`, to chunk 7. -/
theorem run_part32 (Q : PUnit → sProp 𝕄) :
    St m K c true (hst 89) ⊢ iprop((St m K c true (hst 95) -∗ Q ⟨⟩)
      -∗ Runs c (onBufs k0_part32 c) Q) := by
  simp only [onBufs, k0_part32_eq_skeleton]
  unfold k0_part32_skel
  simp only [Prog.lift, Prog.bind_op, Prog.bind_ret, Prog.pure_eq_ret]
  iintro HS Hk
  iapply (back_at m K c (.z, 4) 89 rfl rfl) $$ HS; iintro HS
  iapply (back_at m K c (.y, 5) 90 rfl rfl) $$ HS; iintro HS
  iapply (back_at m K c (.z, 5) 91 rfl rfl) $$ HS; iintro HS
  iapply (back_at m K c (.y, 6) 92 rfl rfl) $$ HS; iintro HS
  iapply (back_at m K c (.z, 6) 93 rfl rfl) $$ HS; iintro HS
  iapply (back_at m K c (.y, 7) 94 rfl rfl) $$ HS; iintro HS
  iapply run_ret
  iapply Hk $$ HS

end Cert.KernelIdealProof
-- ==== Proof.KernelIdealBody.lean ====
module

/- The whole kernel on one device, its pieces in order. -/

public import proofs.«01_k».proof.Proof.KernelIdealOpening
public import proofs.«01_k».proof.Proof.KernelIdealSumParts
public import proofs.«01_k».proof.Proof.KernelIdealWaitParts

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ) (c : Dev nD)

variable (B : Dev nD → ℕ)

/-- What a device holds from the launch of the tokens of its copies, -/
def pays (t : Tr) : sProp 𝕄 :=
  iprop(dutyTok ER (sendCell c t) 0 0 ∗ dutyTok ER (recvCell (peer t c) t) 0 0
    ∗ atPos ER (sendCell c t) 0 ∅ 0 ∗ atPos ER (recvCell c t) 0 ∅ 0)
/-- and of the other semaphores. -/
def held : sProp 𝕄 :=
  iprop(bigSep Finset.univ (pays (F := F) c) ∗ (dutyTok ER (kcell c none) 0 0 ∗ atPos ER (kcell c none) 0 ∅ 0)
    ∗ atPos ER (barCell c) 0 ∅ 0 ∗ dutyTok ER (barCell (xp c)) 0 0 ∗ dutyTok ER (barCell (yp c)) 0 1 ∗ dutyTok ER (barCell (zp c)) 0 2)
/-- The credits of what it is owed. -/
def due : sProp 𝕄 :=
  iprop((cred (tallyAt (barCell c) () 3) ∗ cred (tallyAt (barCell c) () 2)) ∗ bigSep Finset.univ fun t : Tr => cred (tallyAt (recvCell c t) () N))

/-- What the kernel starts from, -/
def start : sProp 𝕄 := iprop((∃ K B, recs m K ∗ bars (F := F) B ∗ held (F := F) c) ∗ due (F := F) c ∗ levAts L lv ∗ argPts m c)

/-- and what it leaves besides its buffers. -/
def finish : sProp 𝕄 :=
  iprop(bigSep Finset.univ (quiet (F := F) c) ∗ semVal (kcell c none) 0 ∗ semVal (barCell c) 0 ∗ argPts m c)

theorem toks_of_pays : iprop(bigSep Finset.univ (pays (F := F) c) ∗ bigSep Finset.univ fun t : Tr => cred (tallyAt (recvCell c t) () N))
    ⊢ bigSep Finset.univ (toks (F := F) c) := by
  rw [← bigSep_sep']
  refine each fun t _ => ?_
  unfold pays toks
  iintro ⟨⟨H1, H2, H3, H4⟩, H5⟩
  isplitl [H1]; · iexact H1
  isplitl [H2]; · iexact H2
  isplitl [H3]; · iexact H3
  isplitl [H4] <;> iassumption

theorem run_seq {α β : Type} (p : Prog (TpuEff nD τ sig (Elt F) Λ₀ .tc) α) (k : α → Prog (TpuEff nD τ sig (Elt F) Λ₀ .tc) β) (Q : β → sProp 𝕄) :
    Runs c p (fun a => Runs c (k a) Q) ⊢ Runs c (p >>= k) Q := Entails.of_eq (wp_bind (k := k) (Q := Q) ..).symm

/-- The whole kernel on one device: the result's buffer ends at the sum, nothing is owed, and every semaphore is back at zero. -/
theorem run_body (Kt : PUnit → sProp 𝕄) :
    start m c ⊢ iprop((∃ W, owes (c : Thread nD τ) (owed₀ c) W)
      -∗ (∃ X : S2048x512.Idx → Elt F .f32, ownsTc c oM fullShare X) -∗ (∃ X : S512x512.Idx → Elt F .f32, ownsTc c mM fullShare X)
      -∗ (∃ X : S512x512.Idx → Elt F .f32, ownsTc c vM fullShare X)
      -∗ (finish m c -∗ (∃ W, owes (c : Thread nD τ) 0 W) -∗ ownsTc c oM fullShare (outF m c) -∗ ownsTc c mM fullShare (xq m c) -∗ ownsTc c vM fullShare (xq m (xp c)) -∗ Kt ⟨⟩)
      -∗ Runs c (onBufs cc0_body) Kt) := by
  simp only [onBufs, cc0_body_eq_skeleton]
  unfold cc0_body_skel start held due
  iintro ⟨⟨%K, %B, #Hr, #HB, Hpays, ⟨Htk, Hak⟩, Hat, Htx, Hty, Htz⟩, ⟨⟨Hc3, Hc2⟩, Hcr⟩, #Hl, Ha⟩ HO ⟨%Y, Ho⟩ Hmem ⟨%X, Hv⟩ Hk
  ihave Htoks := (toks_of_pays c) $$ [Hpays Hcr]
  · isplitl [Hpays] <;> iassumption
  ihave Hp := (places c X Y) $$ [Hv Ho]
  · isplitl [Hv] <;> iassumption
  icases Hp with ⟨⟨Hpx, Hpy, Hpz⟩, Hb⟩
  try dsimp only
  iapply run_seq; iapply (run_part1 m K c B _) $$ Hr HB Ha Hmem Htk HO Htx Hpx; iintro %v2 %v5 %v8 %v9 %v10 %v11 %v14 %v18 %v22 %v31 Hc HO
  try dsimp only
  iapply run_seq; iapply (run_part2 m K c B _ _ _ _ _ _ _ _) $$ Hr HB Hl Hc HO [Hty Hpy] [Htz Hpz] [Hat Hc3 Hc2] Hak Htoks
  · isplitl [Hty] <;> iassumption
  · isplitl [Htz] <;> iassumption
  · isplitl [Hat]; · iexact Hat
    isplitl [Hc3] <;> iassumption
  iintro HS Hu Hm Hh Hlz Ha %r
  try dsimp only
  iapply run_seq; iapply (run_part3 m K c _ _ _ _ _ _) $$ HS Hu; iintro HS Hu
  try dsimp only
  iapply run_seq; iapply (run_part4 m K c _ _ _ _) $$ HS Hu; iintro HS Hu
  try dsimp only
  iapply run_seq; iapply (run_part5 m K c B _ _ _ _ _) $$ HS Hu Hm HB Hh; iintro %v HS Hm Hbz
  try dsimp only
  iapply run_seq; iapply (run_part6 m K c _ _ _ _ _ _ _ _) $$ HS Hm Hb; iintro HS Hm Hb %r
  try dsimp only
  iapply run_seq; iapply (run_part7 m K c _ _ _ _ _ _ _ _ _) $$ HS Hm Hb; iintro HS Hm Hb Hz
  try dsimp only
  iapply run_seq; iapply (run_part8 m K c _ _ _ _ _ _ _) $$ HS Hm Hb Hz; iintro HS Hm Hb Hy Hz
  try dsimp only
  iapply run_seq; iapply (run_part9 m K c _ _ _ _ _ _ _) $$ HS Hm Hb Hy Hz; iintro HS Hm Hb Hy Hz %r
  try dsimp only
  iapply run_seq; iapply (run_part10 m K c _ _ _ _ _ _ _ _) $$ HS Hy Hz; iintro HS %r
  try dsimp only
  iapply run_seq; iapply (run_part11 m K c _ _ _ _ _ _ _ _ _) $$ HS Hm Hb; iintro HS Hm Hb %r
  try dsimp only
  iapply run_seq; iapply (run_part12 m K c _ _ _ _ _ _ _ _) $$ HS Hm Hb; iintro HS Hm Hb Hz %r
  try dsimp only
  iapply run_seq; iapply (run_part13 m K c _ _ _ _ _ _ _ _ _) $$ HS Hm Hb Hz; iintro HS Hm Hb Hy Hz
  try dsimp only
  iapply run_seq; iapply (run_part14 m K c _ _ _ _ _ _ _) $$ HS Hm Hb Hy Hz; iintro HS Hm Hb Hy Hz
  try dsimp only
  iapply run_seq; iapply (run_part15 m K c _ _ _ _ _ _ _) $$ HS Hy Hz; iintro HS
  try dsimp only
  iapply run_seq; iapply (run_part16 m K c _ _ _ _ _ _ _) $$ HS; iintro HS %r
  try dsimp only
  iapply run_seq; iapply (run_part17 m K c _ _ _ _ _ _ _ _ _) $$ HS; iintro HS
  try dsimp only
  iapply run_seq; iapply (run_part18 m K c _ _ _ _ _ _ _ _) $$ HS; iintro HS %r
  try dsimp only
  iapply run_seq; iapply (run_part19 m K c _ _ _ _ _ _ _ _ _) $$ HS; iintro HS %r
  try dsimp only
  iapply run_seq; iapply (run_part20 m K c _ _ _ _ _ _ _ _) $$ HS; iintro HS
  try dsimp only
  iapply run_seq; iapply (run_part21 m K c _ _ _ _ _ _ _) $$ HS; iintro HS %r
  try dsimp only
  iapply run_seq; iapply (run_part22 m K c _ _ _ _ _ _) $$ HS; iintro HS %r
  try dsimp only
  iapply run_seq; iapply (run_part23 m K c _ _ _ _ _ _ _ _ _) $$ HS; iintro HS %r
  try dsimp only
  iapply run_seq; iapply (run_part24 m K c _ _ _ _ _ _ _) $$ HS; iintro HS %r
  try dsimp only
  iapply run_seq; iapply (run_part25 m K c _ _ _ _ _) $$ HS; iintro HS %r
  try dsimp only
  iapply run_seq; iapply (run_part26 m K c _ _ _ _ _ _ _) $$ HS; iintro HS %r
  try dsimp only
  iapply run_seq; iapply (run_part27 m K c _ _ _ _ _ _) $$ HS; iintro HS
  try dsimp only
  iapply run_seq; iapply (run_part28 m K c _ _ _ _) $$ HS; iintro HS
  try dsimp only
  iapply run_seq; iapply (run_part29 m K c _) $$ HS; iintro HS
  try dsimp only
  iapply run_seq; iapply (run_part30 m K c _) $$ HS; iintro HS
  try dsimp only
  iapply run_seq; iapply (run_part31 m K c _) $$ HS; iintro HS
  try dsimp only
  iapply run_seq; iapply (run_part32 m K c _) $$ HS; iintro HS
  simp only [Prog.lift, Prog.bind_op, Prog.bind_ret, Prog.pure_eq_ret]
  iapply (back_at m K c (.z, 7) 95 rfl rfl) $$ HS; iintro HS
  iapply run_ret
  ihave HS := (Entails.of_eq (show St m K c true (hst (95 + 1)) = iprop(recs m K ∗ levAts L lv ∗ (∃ W, owes (c : Thread nD τ) (owedT c (hst 96)) W) ∗ sts m c true (hst 96)) from rfl)) $$ HS
  icases HS with ⟨-, -, HO, HS⟩
  ihave HO := (Entails.of_eq (show iprop(∃ W, owes (c : Thread nD τ) (owedT c (hst 96)) W) = (iprop(∃ W, owes (c : Thread nD τ) 0 W) : sProp 𝕄) by rw [owed_end])) $$ HO
  ihave H := (closing m c) $$ [HS Hm]
  · isplitl [HS] <;> iassumption
  icases H with ⟨Ho, Hmem, Hv, Hq⟩
  ihave Hf : finish m c $$ [Hq Hlz Hbz Ha]
  · unfold finish
    isplitl [Hq]; · iexact Hq
    isplitl [Hlz]; · iexact Hlz
    isplitl [Hbz] <;> iassumption
  iapply Hk $$ Hf HO Ho Hmem Hv

end Cert.KernelIdealProof
-- ==== Proof.KernelIdealDeal.lean ====
module

/- What the launch deals to the devices: the semaphores' invariants, the tokens of the contributions, the credits. -/

public import proofs.«01_k».proof.Proof.KernelIdealBody

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ) (c : Dev nD)

/-! ## The semaphores of one device -/

/-- The kernel's semaphores of one device: the barrier's and the copies'. -/
abbrev Sk : Type := Option Ck
abbrev scell : Dev nD × Sk → GSem nD τ sig
  | (c, none) => barCell c
  | (c, some k) => kcell c k

theorem scell_injective : Function.Injective scell := by
  rintro ⟨c, k⟩ ⟨c', k'⟩ h
  rcases k with _ | k <;> rcases k' with _ | k'
  · exact Prod.ext (congrArg (fun g : GSem nD τ sig => g.1.1) h) rfl
  · exact absurd (congrArg Prod.snd h) (fun h' => by cases h')
  · exact absurd (congrArg Prod.snd h) (fun h' => by cases h')
  · have h1 : c = c' := congrArg (fun g : GSem nD τ sig => g.1.1) h
    have h2 : csem k = csem k' := SemLoc.dma.inj (congrArg Prod.snd h)
    rw [h1, csem_injective h2]

/-- The contributions' tokens of one device's semaphores: one of each copy semaphore, three of the barrier's. -/
abbrev stok : Dev nD × (Ck ⊕ Fin 3) → GSem nD τ sig × ℕ × Fin 3
  | (c, .inl k) => (kcell c k, 0, 0)
  | (c, .inr d) => (barCell c, 0, d)

theorem stok_injective : Function.Injective stok := by
  rintro ⟨c, k⟩ ⟨c', k'⟩ h
  rcases k with k | d <;> rcases k' with k' | d'
  · have h1 : ((c, some k) : Dev nD × Sk) = (c', some k') := scell_injective (congrArg Prod.fst h)
    cases h1; rfl
  · exact absurd (congrArg (fun x : GSem nD τ sig × ℕ × Fin 3 => x.1.2) h) (fun h' => by cases h')
  · exact absurd (congrArg (fun x : GSem nD τ sig × ℕ × Fin 3 => x.1.2) h) (fun h' => by cases h')
  · have h1 : c = c' := congrArg (fun x : GSem nD τ sig × ℕ × Fin 3 => x.1.1.1) h
    have h2 : d = d' := congrArg (fun x : GSem nD τ sig × ℕ × Fin 3 => x.2.2) h
    rw [h1, h2]

def scells : Finset (GSem nD τ sig) := Finset.univ.map ⟨scell, scell_injective⟩
def stoks : Finset (GSem nD τ sig × ℕ × Fin 3) := Finset.univ.map ⟨stok, stok_injective⟩

/-! ## Regrouping -/

omit [FloatOps F] in
theorem opt {I : Type} [Fintype I] (Φ : Option I → sProp 𝕄) :
    bigSep Finset.univ Φ = iprop(Φ none ∗ bigSep Finset.univ fun i => Φ (some i)) := by
  classical
  rw [bigSep_univ_equiv (Equiv.optionEquivSumPUnit I).symm Φ, bigSep_univ_sum]
  have e : bigSep Finset.univ (fun b : PUnit.{1} => Φ ((Equiv.optionEquivSumPUnit I).symm (.inr b))) = Φ none :=
    (congrArg (fun s => bigSep s _) Finset.univ_unique).trans (bigSep_singleton ..)
  rw [e]
  have swap (P Q : sProp 𝕄) : iprop(P ∗ Q) ⊢ iprop(Q ∗ P) := by iintro ⟨H1, H2⟩; isplitl [H2] <;> iassumption
  exact BI.Entails.antisymm (swap _ _) (swap _ _)

omit [FloatOps F] in
/-- What is held of each copy semaphore: of the local copy's, of the issues', of the arrivals'. -/
theorem cks (Φ : Ck → sProp 𝕄) :
    bigSep Finset.univ Φ = iprop(Φ none ∗ (bigSep Finset.univ fun t : Tr => Φ (some (false, t))) ∗ bigSep Finset.univ fun t : Tr => Φ (some (true, t))) := by
  rw [opt, bigSep_univ_prod (fun p : Bool × Tr => Φ (some p)),
    bigSep_univ_eq_bigSepL [false, true] (by decide) (by decide) (fun b => bigSep Finset.univ fun t : Tr => Φ (some (b, t)))]
  rfl

omit [FloatOps F] in
theorem three (Φ : Fin 3 → sProp 𝕄) : bigSep Finset.univ Φ = iprop(Φ 0 ∗ Φ 1 ∗ Φ 2) := bigSep_univ_eq_bigSepL [0, 1, 2] (by decide) (by decide) Φ

/-! ## What the launch deals -/

/-- The tokens and positions of one device's own semaphores. -/
def own (c : Dev nD) : sProp 𝕄 :=
  iprop((bigSep Finset.univ fun k : Ck => atPos ER (kcell c k) 0 ∅ 0) ∗ atPos ER (barCell c) 0 ∅ 0
    ∗ (bigSep Finset.univ fun k : Ck => dutyTok ER (kcell c k) 0 0) ∗ bigSep Finset.univ fun d : Fin 3 => dutyTok ER (barCell c) 0 d)

/-- What a device starts from: its semaphores' records, that their round is reached, tokens and positions. -/
def dealt (c : Dev nD) : sProp 𝕄 :=
  iprop((bigSep Finset.univ fun k : Ck => roundState ER (sched m) (kcell c k) 0) ∗ roundAuth ER (barCell c) 0 ∅ 0
    ∗ (bigSep Finset.univ fun k : Ck => reached ER (kcell c k) 0) ∗ own c)

theorem fund_all : BI.own (ER (initOf scells stoks)) ⊢ (|==> bigSep Finset.univ (dealt m) : sProp 𝕄) := by
  have hX (Φ : GSem nD τ sig → sProp 𝕄) : bigSep scells Φ = iprop((bigSep Finset.univ fun c : Dev nD => Φ (barCell c))
      ∗ bigSep Finset.univ fun c : Dev nD => bigSep Finset.univ fun k : Ck => Φ (kcell c k)) := by
    unfold scells
    rw [bigSep_map, bigSep_univ_prod, ← bigSep_sep']
    exact bigSep_congr fun c _ => opt fun k : Sk => Φ (scell (c, k))
  have hT : bigSep stoks (fun x => (dutyTok ER x.1 x.2.1 x.2.2 : sProp 𝕄)) = iprop((bigSep Finset.univ fun c : Dev nD => bigSep Finset.univ fun k : Ck => dutyTok ER (kcell c k) 0 0)
      ∗ bigSep Finset.univ fun c : Dev nD => bigSep Finset.univ fun d : Fin 3 => dutyTok ER (barCell c) 0 d) := by
    unfold stoks
    rw [bigSep_map, bigSep_univ_prod, ← bigSep_sep']
    exact bigSep_congr fun c _ => bigSep_univ_sum fun k : Ck ⊕ Fin 3 => (dutyTok ER (stok (c, k)).1 (stok (c, k)).2.1 (stok (c, k)).2.2 : sProp 𝕄)
  iintro HX
  imod (Rounds.fund_init ER scells stoks) $$ HX with ⟨Hst, Hr, Hat, Htok⟩
  imodintro
  ihave Hst := (Entails.of_eq (hX fun g => initState ER g)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  icases Hst with ⟨Hsb, Hsk⟩
  icases Hat with ⟨Hab, Hak⟩
  icases Hr with ⟨-, Hrk⟩
  icases Htok with ⟨Htk, Htb⟩
  ihave Hsk := (each fun c _ => each fun k _ => roundState_init ER (sched (F := F) m)) $$ Hsk
  ihave Hsb := (each fun c _ => (show initState ER (barCell c) ⊢ (roundAuth ER (barCell c) 0 ∅ 0 : sProp 𝕄) by iintro ⟨H, -⟩; iexact H)) $$ Hsb
  unfold dealt own
  simp only [bigSep_sep']
  isplitl [Hsk]; · iexact Hsk
  isplitl [Hsb]; · iexact Hsb
  isplitl [Hrk]; · iexact Hrk
  isplitl [Hak]; · iexact Hak
  isplitl [Hab]; · iexact Hab
  isplitl [Htk] <;> iassumption

/-! ## The invariants -/

/-- The copies' semaphores, all the kernel's own. -/
abbrev osem : Ck → SemLoc sig := fun k => .dma (csem k)

omit [FloatOps F] in
theorem ownSems_eq (c : Dev nD) : (Pipeline.ownSems0 (Ix := Unit) (Name := ℕ) (U := UU) (Lvl := ℕ) (Val := Elt F) (τ := τ) osem c : sProp 𝕄)
    = bigSep Finset.univ fun k : Ck => semVal (kcell c k) 0 := rfl
omit [FloatOps F] in
/-- The barrier's is the one the kernel finds. -/
theorem unscopedSems_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : Ck => iprop(∃ κ : ℕ, cellInv ER (sched m) κ (kcell c k)))
          ∗ (∃ κ : ℕ, barInv (F := F) κ c) ∗ (bigSep Finset.univ fun k : Ck => reached ER (kcell c k) 0) ∗ own c) := by
  rw [ownSems_eq, unscopedSems_eq]
  unfold dealt
  iintro ⟨Hv, Hb, Hst, Ha, Hr, Ho⟩
  imod (show iprop((bigSep Finset.univ fun k : Ck => semVal (kcell c k) 0) ∗ bigSep Finset.univ fun k : Ck => roundState ER (sched m) (kcell c k) 0)
      ⊢ (|={Set.univ}=> bigSep Finset.univ fun k : Ck => iprop(∃ κ : ℕ, cellInv ER (sched m) κ (kcell c k)) : sProp 𝕄) from by
        rw [← bigSep_sep']
        exact (each fun k _ => (Rounds.body_intro ER (sched m) (kcell c k)).trans inv_alloc).trans (bigSep_fupd _ _)) $$ [Hv Hst] with Hinv
  · isplitl [Hv] <;> iassumption
  imod (show iprop(semVal (barCell c) 0 ∗ roundAuth ER (barCell c) 0 ∅ 0) ⊢ (|={Set.univ}=> ∃ κ : ℕ, barInv (F := F) κ c : sProp 𝕄) from
      (Cert.Handshake.bodyOf_intro ER bamt (bpay c) (barCell c)).trans inv_alloc) $$ [Hb Ha] with Hbar
  · isplitl [Hb] <;> iassumption
  imodintro
  isplitl [Hinv]; · iexact Hinv
  isplitl [Hbar]; · iexact Hbar
  isplitl [Hr] <;> iassumption

/-! ## The tokens dealt to those who pay with them -/

/-- A permutation of the devices, its own inverse. -/
def flipE (f : Dev nD → Dev nD) (h : ∀ c, f (f c) = c) : Dev nD ≃ Dev nD := ⟨f, f, h, h⟩

omit [FloatOps F] in
theorem flipped (f : Dev nD → Dev nD) (h : ∀ c, f (f c) = c) (Φ : Dev nD → sProp 𝕄) :
    bigSep Finset.univ Φ = bigSep Finset.univ fun c => Φ (f c) := bigSep_univ_equiv (flipE f h) Φ

omit [FloatOps F] in
/-- What every device holds of the arrivals on it, told by who issues them. -/
theorem crossed (Φ : Dev nD → Tr → sProp 𝕄) :
    (bigSep Finset.univ fun c : Dev nD => bigSep Finset.univ fun t : Tr => Φ c t)
      = bigSep Finset.univ fun c : Dev nD => bigSep Finset.univ fun t : Tr => Φ (peer t c) t := by
  rw [bigSep_univ_comm, bigSep_univ_comm (fun (c : Dev nD) (t : Tr) => Φ (peer t c) t)]
  exact bigSep_congr fun t _ => flipped (peer t) (peer_peer t) fun c => Φ c t

omit [FloatOps F] in
theorem own_held : (bigSep Finset.univ fun c : Dev nD => (own c : sProp 𝕄)) ⊢ bigSep Finset.univ fun c : Dev nD => held (F := F) c := by
  unfold own held pays
  simp only [cks, three, bigSep_sep']
  rw [crossed (fun c t => (dutyTok ER (recvCell c t) 0 0 : sProp 𝕄)),
    flipped xp xp_xp (fun c => (dutyTok ER (barCell c) 0 0 : sProp 𝕄)),
    flipped yp yp_yp (fun c => (dutyTok ER (barCell c) 0 1 : sProp 𝕄)),
    flipped zp zp_zp (fun c => (dutyTok ER (barCell c) 0 2 : sProp 𝕄))]
  iintro ⟨⟨Hal, Has, Har⟩, Hab, ⟨Htl, Hts, Htr⟩, Htx, Hty, Htz⟩
  isplitl [Hts Htr Has Har]
  · isplitl [Hts]; · iexact Hts
    isplitl [Htr]; · iexact Htr
    isplitl [Has] <;> iassumption
  isplitl [Htl Hal]
  · isplitl [Htl] <;> iassumption
  isplitl [Hab]; · iexact Hab
  isplitl [Htx]; · iexact Htx
  isplitl [Hty] <;> iassumption

/-- What every device starts the kernel with, apart from credits and buffers. -/
def ready (c : Dev nD) : sProp 𝕄 := iprop(∃ K B, recs m K ∗ bars (F := F) B ∗ held (F := F) c)

omit [FloatOps F] in
theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact each h)

theorem regroup :
    (bigSep Finset.univ fun c : Dev nD => iprop((bigSep Finset.univ fun k : Ck => iprop(∃ κ : ℕ, cellInv ER (sched m) κ (kcell c k)))
          ∗ (∃ κ : ℕ, barInv (F := F) κ c) ∗ (bigSep Finset.univ fun k : Ck => reached ER (kcell c k) 0) ∗ own c) : sProp 𝕄)
      ⊢ bigSep Finset.univ (ready m) := by
  rw [bigSep_sep', bigSep_sep', bigSep_sep', ← bigSep_univ_prod (fun p : Dev nD × Ck => iprop(∃ κ : ℕ, cellInv ER (sched m) κ (kcell p.1 p.2))),
    ← bigSep_univ_prod (fun p : Dev nD × Ck => (reached ER (kcell p.1 p.2) 0 : sProp 𝕄))]
  iintro ⟨HI, HB, #HR, Ho⟩
  ihave HK := (BI.bigSep_exists_pi Finset.univ (fun (p : Dev nD × Ck) (κ : ℕ) => (cellInv ER (sched m) κ (kcell p.1 p.2) : sProp 𝕄))) $$ HI
  icases HK with ⟨%K, #HI⟩
  ihave HB := (BI.bigSep_exists_pi Finset.univ (fun (c : Dev nD) (κ : ℕ) => (barInv (F := F) κ c : sProp 𝕄))) $$ HB
  icases HB with ⟨%B, #HB⟩
  ihave Hh := own_held $$ Ho
  iapply (with_all (R := iprop(recs m K ∗ bars (F := F) B)) (Φ := held) fun c _ => (show iprop((recs m K ∗ bars (F := F) B) ∗ held c) ⊢ ready m c by
    unfold ready
    iintro ⟨⟨H1, H2⟩, H3⟩
    iexists K; iexists B
    isplitl [H1]; · iexact H1
    isplitl [H2] <;> iassumption))
  isplitr
  · isplitl
    · unfold recs
      rw [bigSep_sep']
      isplitl <;> iassumption
    · unfold bars; iexact HB
  · iexact Hh

/-- From every device's semaphores at zero and its launch element, what the kernels start with. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) :=
  ((each fun c _ => core_alloc m c).trans (bigSep_fupd _ _)).trans (BI.fupd_mono (regroup m))

/-! ## The credits -/

omit [FloatOps F] in
/-- The credits of what each device is owed, from what every device owes. -/
theorem credits (c : Dev nD) : (Pipeline.launchCred owed₀ c : sProp 𝕄) ⊢ due (F := F) c := by
  have e : (owed₀ : Dev nD → CellTallies nD τ sig Unit) = fun d => (((∑ t : Tr, tallyAt (recvCell (peer t d) t) () N)
      + tallyAt (barCell (zp d)) () 1) + tallyAt (barCell (yp d)) () 1) + tallyAt (barCell (xp d)) () 3 := by
    funext d
    unfold owed₀ owedT
    rw [hst_zero, Finset.filter_true_of_mem fun _ _ => rfl]
  rw [e, Pipeline.launchCred_add, Pipeline.launchCred_add, Pipeline.launchCred_add, Pipeline.launchCred_sum]
  unfold due
  iintro ⟨⟨⟨Hr, Hz⟩, Hy⟩, Hx⟩
  ihave Hx := (Pipeline.launchCred_tallyAt (.reg barS) xp xp xp_xp xp_xp () 3 c) $$ Hx
  ihave Hy := (Pipeline.launchCred_tallyAt (.reg barS) yp yp yp_yp yp_yp () 1 c) $$ Hy
  ihave Hz := (Pipeline.launchCred_tallyAt (.reg barS) zp zp zp_zp zp_zp () 1 c) $$ Hz
  isplitr [Hr]
  · isplitl [Hx]; · iexact Hx
    rw [show (2 : ℕ) = 1 + 1 from rfl, ← tallyAt_add]
    iapply (cred_add _ _).2
    isplitl [Hy] <;> iassumption
  · iapply (each fun t _ => Pipeline.launchCred_tallyAt (.dma (csem (some (true, t)))) (peer t) (peer t) (peer_peer t) (peer_peer t) () N c)
    iexact Hr

end Cert.KernelIdealProof
-- ==== Proof.KernelIdealRun.lean ====
module

/- The run of the whole program: from the devices' launch to the end of every kernel. -/

public import proofs.«01_k».proof.Proof.KernelIdealDeal
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (K : Dev nD × Ck → ℕ) (c : Dev nD)

variable (ρ : Dev nD → PrngReg)

/-! ## The call's data -/

/-- Before the body: what it starts from and its two other buffers; -/
def Φ₀ (c : Dev nD) : sProp 𝕄 :=
  iprop(start m c ∗ (∃ X : S512x512.Idx → Elt F .f32, ownsTc c mM fullShare X) ∗ ∃ X : S512x512.Idx → Elt F .f32, ownsTc c vM fullShare X)
/-- after it. -/
def Φ₁ (c : Dev nD) : sProp 𝕄 :=
  iprop(finish m c ∗ (∃ X : S512x512.Idx → Elt F .f32, ownsTc c mM fullShare X) ∗ ∃ X : S512x512.Idx → Elt F .f32, ownsTc c vM fullShare X)

def dats (_ : Fin 1) (c : Dev nD) : Dat τ (Elt F) Unit ℕ UU ℕ cfg0 c where
  A w := m ((cfg0.win w).arr.view.loc (c : Thread nD τ))
  after w _ := match w with
    | ⟨0, _⟩ => outF m c
  Φ t := match t with
    | ⟨0, _⟩ => Φ₀ m c
    | ⟨_ + 1, _⟩ => Φ₁ m c
  q _ := fullShare
  owed t := match t with
    | ⟨0, _⟩ => owed₀ c
    | ⟨_ + 1, _⟩ => 0

/-- The result's buffer at given contents, -/
def before (c : Dev nD) : sProp 𝕄 := iprop(∃ d, ownsTc c oM fullShare ((dats m 0 c).before (0 : Fin 1) t0_0 d))

set_option maxRecDepth 16000 in
/-- The body of the call, from its data before to its data after. -/
theorem body_obligation (c : Dev nD) : BodyObligation (dats (F := F) m 0 c) (defs₀ (F := F)) 𝒱₀ () Set.univ := fun t => by
  rw [fin_N0 t, bigSep_W0, bigSep_W0]
  show iprop(Φ₀ m c ∗ (dats m 0 c).owesAt () t0_0.castSucc ∗ before m c)
    ⊢ Runs c (onBufs cc0_body) fun _ => iprop(Φ₁ m c ∗ (dats m 0 c).owesAt () t0_0.succ ∗ ownsTc c oM fullShare (outF m c))
  unfold Φ₀ before Dat.owesAt Pipeline.owesWithin
  rw [show (dats m 0 c).owed t0_0.castSucc = owed₀ c from rfl, show (dats m 0 c).owed t0_0.succ = 0 from rfl]
  iintro ⟨⟨Hs, Hm, Hv⟩, ⟨%W, %hW, HO⟩, ⟨%d, Ho⟩⟩
  iapply (run_body m c _) $$ Hs [HO] [Ho] Hm Hv
  · iexists W; iexact HO
  · iexists _; iexact Ho
  iintro Hf ⟨%W', HO⟩ Ho Hm Hv
  unfold Φ₁
  isplitl [Hf Hm Hv]
  · isplitl [Hf]; · iexact Hf
    isplitl [Hm]
    · iexists _; iexact Hm
    · iexists _; iexact Hv
  isplitl [HO]
  · iexists W'
    isplitr; · ipureintro; exact fun _ _ => Or.inl trivial
    iexact HO
  iexact Ho

/-! ## The launch's conditions -/

theorem ownSemFacts : Pipeline.OwnSemFacts cfg0.spec osem := by decide

theorem share_eq (c : Dev nD) (w : Fin cfg0.W) : (dats m 0 c).share w = fullShare := by unfold Dat.share; split <;> rfl

/-- The launch's ghost state. -/
def u₀ : UU := (initOf (Pipeline.cells cfgs cellOf_inj) (Pipeline.launchToks cfgs cellOf_inj), initOf scells stoks)

/-- The rest of the argument's buffer, which the kernel does not touch on this device. -/
def argRest (c : Dev nD) : sProp 𝕄 :=
  (aV c).view.loc (c : Thread nD τ) ↦[Finset.univ \ (aV c).view.set]{fullShare} (m ((c : Thread nD τ).loc main_arg0))

theorem arg_cut (c : Dev nD) : iprop(((c : Thread nD τ).loc main_arg0) ↦{fullShare} m ((c : Thread nD τ).loc main_arg0)) ⊢ (iprop(argPts m c ∗ argRest m c) : sProp 𝕄) :=
  (pointsTo_split_subset (Finset.subset_univ (aV c).view.set)).1
theorem arg_join (c : Dev nD) : (iprop(argPts m c ∗ argRest m c) : sProp 𝕄) ⊢ iprop(((c : Thread nD τ).loc main_arg0) ↦{fullShare} m ((c : Thread nD τ).loc main_arg0)) :=
  (pointsTo_split_subset (Finset.subset_univ (aV c).view.set)).2

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ ready m c)
      ⊢ |={Set.univ}=> iprop(start m c ∗ argRest m c) := by
  rw [Pipeline.unscopedRestP_none, unscopedRest0_eq]
  iintro ⟨Ha, Hl, Hc, -, Hg⟩
  ihave Ha := (arg_cut m c) $$ Ha
  icases Ha with ⟨Ha, Hz⟩
  ihave Hc := (credits c) $$ Hc
  imodintro
  isplitr [Hz]
  · unfold start
    unfold ready
    isplitl [Hg]; · iexact Hg
    isplitl [Hc]; · iexact Hc
    isplitl [Hl] <;> iassumption
  · iexact Hz

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  simp only [owns_whole]
  iintro ⟨Hs, -, Hr1, Hr2⟩
  isplitl [Hs]; · iexact Hs
  isplitl [Hr1] <;> iassumption

theorem leave (c : Dev nD) :
    (dats m 0 c).Φ (Fin.last cfg0.N) ⊢ iprop((unscopedSems0 c ∗ argPts m c) ∗ Pipeline.ownSems0 osem c ∗ Pipeline.scopedRest cfg0.spec c) := by
  rw [show (dats m 0 c).Φ (Fin.last cfg0.N) = Φ₁ m c from rfl, scopedRest0_eq, ownSems_eq, unscopedSems_eq, cks]
  unfold Φ₁ finish quiet
  simp only [owns_whole, bigSep_sep']
  iintro ⟨⟨⟨Hs, Hr⟩, Hl, Hb, Ha⟩, Hm, Hv⟩
  isplitl [Hb Ha]
  · isplitl [Hb] <;> iassumption
  isplitl [Hs Hr Hl]
  · isplitl [Hl]; · iexact Hl
    isplitl [Hs] <;> iassumption
  isplitl [Hm] <;> iassumption

/-- The call's own wait is below everything owed. -/
theorem waits (c : Dev nD) : (levAts L lv : sProp 𝕄) ⊢ Pipeline.cellsWaits cfgs (dats m) () 0 c :=
  Pipeline.cellsWaits_intro cfgs (dats m) () 0 c fun w s t => mayWait c _ _ fun g u hg => by
    have hs : smLv (.dma (((cfgs 0).win w).sem s)) = 0 := by fin_cases w; fin_cases s; decide
    rw [hs]
    rcases t with ⟨_ | _, ht⟩
    · have h : 0 < owed₀ c g u := hg
      unfold owed₀ at h
      simp only [Pi.add_apply, Finsupp.add_apply] at h
      by_cases hx : 0 < (tallyAt (barCell (xp c)) () 3 : CellTallies nD τ sig Unit) g u
      · exact ⟨xp c, _, tallyAt_pos hx, by rw [lv_bar]; decide⟩
      by_cases hy : 0 < (tallyAt (barCell (yp c)) () 1 : CellTallies nD τ sig Unit) g u
      · exact ⟨yp c, _, tallyAt_pos hy, by rw [lv_bar]; decide⟩
      by_cases hz : 0 < (tallyAt (barCell (zp c)) () 1 : CellTallies nD τ sig Unit) g u
      · exact ⟨zp c, _, tallyAt_pos hz, by rw [lv_bar]; decide⟩
      obtain ⟨t, -, rfl⟩ := owedT_pos (c := c) (h := hst 0) (g := g) (u := u) (by omega)
      exact ⟨peer t c, _, rfl, by rw [lv_k]; show 0 < legLv t.1; cases t.1 <;> decide⟩
    · exact absurd (show 0 < (0 : CellTallies nD τ sig Unit) g u from hg) (Nat.lt_irrefl 0)

/-- The result's array after the call. -/
theorem out_eq (c : Dev nD) : (dats m 0 c).arrAt (0 : Fin 1) cfg0.N = outF m c := by
  refine (dats m 0 c).arrAt_eq_of_after_last (0 : Fin 1) t0_0 (by decide +kernel) _ fun j => ?_
  blk_simp
  rfl

set_option maxRecDepth 8000 in
/-- Every run of the program on the eight devices ends, with each device's result at the sum, the argument as it was, and
    every semaphore at zero. -/
theorem run_main : θ_run defs (onTc (τ := τ) (main (F := F))) ⟨m, fun _ => 0, ρ⟩ (fun r => (∀ c : Dev nD,
      r.2.mem ((c : Thread nD τ).loc main_v1) = outF m c ∧ r.2.mem ((c : Thread nD τ).loc main_arg0) = m ((c : Thread nD τ).loc main_arg0))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := dealt m) (G' := ready m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ argPts m c)) (Z := argRest m)
    (hX := start_intro m ρ) (hin := enter m) (hout := leave m)
    (QY := fun c s => (∀ sm : SemLoc sig, sm.isScoped .tc = false → s.sem ((c.tc : Thread nD τ), sm) = 0)
      ∧ s.mem ((c : Thread nD τ).loc main_arg0) = m ((c : Thread nD τ).loc main_arg0))
    (hY := fun c s' => by
      iintro ⟨⟨Hu, Ha⟩, Hz, HSI⟩
      imod (Pipeline.unscopedSems0_read (X := unscopedSems0 c) (c := c) fupd_intro s') $$ [Hu HSI] with ⟨%hs, HSI⟩
      · isplitl [Hu] <;> iassumption
      ihave Ha := (arg_join m c) $$ [Ha Hz]
      · isplitl [Ha] <;> iassumption
      icombine HSI Ha gives %h
      imodintro
      isplitr; · ipureintro; exact ⟨hs, Buf.eq_of_forall_mem_univ h⟩
      iexact HSI)
    (hQ := fun _ h hs => ⟨fun c => ⟨((h c).1 (0 : Fin 1)).trans (out_eq m c), (h c).2.2.2⟩, sem_eq_zero hs fun c => (h c).2.2.1⟩)

end Cert.KernelIdealProof
-- ==== Proof.Value.lean ====
module

/- The value of the result: the sum of the array's two halves, which is what the reference computes and what every device
   of the kernel ends with. Floats are extended reals here. -/

public import proofs.«01_k».proof.Proof.KernelIdealBase
public import proofs.«01_k».proof.Proof.Gen.ReferenceIdeal.Run
public import Idealize.ShloMosaic.Lib.Pointwise
public import Idealize.ShloMosaic.Lib.Layout

@[expose] public section

noncomputable section

namespace Cert.Value

open Idealize.ShloMosaic
open Idealize.ShloMosaic.TcCoe

/-- The shape of the whole array, and of one half. -/
abbrev SW : Shape := ⟨2, ![4096, 512]⟩
abbrev SH : Shape := ⟨2, ![2048, 512]⟩

variable (W : SW.Idx → EReal)

/-- Row `k` of half `a` of the whole array, at column `l`. -/
def half (a : Fin 2) (k l : ℕ) (hk : k < 2048) (hl : l < 512) : EReal :=
  W (ix2 ⟨2048 * a.val + k, by have := a.isLt; omega⟩ ⟨l, hl⟩)

/-- The sum of the two halves. -/
def total (i : SH.Idx) : EReal := half W 0 (i 0).val (i 1).val (i 0).isLt (i 1).isLt + half W 1 (i 0).val (i 1).val (i 0).isLt (i 1).isLt

/-! ## The reference -/

section
open Cert.ReferenceIdeal Cert.ReferenceIdeal.Gen

/-- The reference's result is the sum of the two halves. -/
theorem reference_eq : (Host.reduceAdd (F := Ideal) (φ := .f32) (shapeCast S2x2048x512 W shapeCasts_S4096x512_S2x2048x512)
    (constant S_ .f32 0x00000000#32) reducesTo_S2x2048x512_S2048x512_d0 h_S_ : SH.Idx → EReal) = total W := by
  funext j
  pointwise [total, half]
  rw [Fin.sum_univ_two]
  congr 2
  all_goals
    congr 1
    exact Fin.ext (by simp)

end

/-! ## The kernel -/

section
open Cert.KernelIdeal Cert.KernelIdeal.Gen Cert.KernelIdealProof

/-- Where a device's quarter starts: -/
theorem quarter_row (c : Dev nD) : k0_off1 c 0 = 512 * (c.val % 4) := by revert c; decide
theorem quarter_col (c : Dev nD) : k0_off1 c 1 = 0 := by revert c; decide

/-- Which half of the array a device holds: -/
theorem half_row (c : Dev nD) : (Layout.meshBlock [2, 2, 2] ![[0], []] c (by decide) (0 : Fin 2)).val = c.val / 4 := by revert c; decide
theorem half_col (c : Dev nD) : (Layout.meshBlock [2, 2, 2] ![[0], []] c (by decide) (1 : Fin 2)).val = 0 := by revert c; decide

variable (m : (ℓ : Loc nD τ sig) → Buf (Elt Ideal) ℓ)

/-- The devices hold the array's halves. -/
def Holds : Prop := ∀ c : Dev nD, m ((c : Thread nD τ).loc main_arg0) = Layout.blockN SH SW (Layout.meshBlock [2, 2, 2] ![[0], []] c) W

/-- A chunk of a device's quarter is those rows of the half it holds. -/
theorem chunk_eq (hm : Holds W m) (c : Dev nD) (a : Fin 2) (ha : c.val / 4 = a.val) (r : Fin 8) (j : S64x512.Idx) (k l : ℕ)
    (hk : k < 2048) (hl : l < 512) (ek : k = 512 * (c.val % 4) + 64 * r.val + (j 0).val) (el : l = (j 1).val) :
    (xch m c r j : EReal) = half W a k l hk hl := by
  unfold xch xq half
  rw [hm c]
  refine congrArg W (funext fun b => Fin.ext ?_)
  rw [Layout.TilesN.idx_val]
  match b with
  | ⟨0, _⟩ =>
    refine Eq.trans (congrArg₂ (· + ·) (congrArg (· * 2048) (half_row c)) (ValueKit.rect_emb_unit_val ..)) ?_
    refine Eq.trans (congrArg₂ (· + ·) rfl (congrArg₂ (· + ·) (quarter_row c) (hR_emb_0 r j))) ?_
    show c.val / 4 * 2048 + (512 * (c.val % 4) + (64 * r.val + (j 0).val)) = 2048 * a.val + k
    omega
  | ⟨1, _⟩ =>
    refine Eq.trans (congrArg₂ (· + ·) (congrArg (· * 512) (half_col c)) (ValueKit.rect_emb_unit_val ..)) ?_
    refine Eq.trans (congrArg₂ (· + ·) rfl (congrArg₂ (· + ·) (quarter_col c) (hR_emb_1 r j))) ?_
    show 0 * 512 + (0 + (j 1).val) = l
    omega

/-- Each device ends with the sum of the two halves: its own plane's and its partner's quarter of each, in the order of the
    device's plane, which the sum does not depend on. -/
theorem kernel_eq (hm : Holds W m) (c : Dev nD) : (outF m c : SH.Idx → EReal) = total W := by
  funext i
  have h0 : (i 0).val < 2048 := (i 0).isLt
  have hc : c.val < 8 := c.isLt
  unfold outF cv total
  show (xch m _ _ _ : EReal) + (xch m _ _ _ : EReal) = _
  have hd (q : Fin 4) : (dv c q).val = 4 * (c.val / 4) + q.val := rfl
  have hx (d : Dev nD) : (xp d).val = (2 * ((d.val / 2) % 2) + (d.val % 2) + 4) - 4 * (d.val / 4) := rfl
  by_cases h : c.val / 4 = 0
  · rw [chunk_eq W m hm _ 0 (by rw [hd]; simp only [h]; omega) _ _ (i 0).val (i 1).val (i 0).isLt (i 1).isLt (by rw [hd]; simp only []; omega) rfl,
      chunk_eq W m hm _ 1 (by rw [hx, hd]; simp only [h]; omega) _ _ (i 0).val (i 1).val (i 0).isLt (i 1).isLt (by rw [hx, hd]; simp only []; omega) rfl]
  · rw [chunk_eq W m hm _ 1 (by rw [hd]; simp only []; omega) _ _ (i 0).val (i 1).val (i 0).isLt (i 1).isLt (by rw [hd]; simp only []; omega) rfl,
      chunk_eq W m hm _ 0 (by rw [hx, hd]; simp only []; omega) _ _ (i 0).val (i 1).val (i 0).isLt (i 1).isLt (by rw [hx, hd]; simp only []; omega) rfl]
    exact add_comm _ _

end

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel at machine words: it runs, leaves its argument, and ends with every semaphore at zero. -/
theorem quiescent_kernel : Cert.quiescent_Kernel (hKernel := Cert.Kernel.Gen.facts) := fun m g _ =>
  (θ_run _ _ _).mono (fun _ h => ⟨fun c => (h.1 c).2, h.2⟩) (Cert.KernelProof.run_main (F := Bits) m g)

/-- The same of the kernel over extended reals, -/
theorem quiescent_ideal : Cert.quiescent_KernelIdeal (hKernelIdeal := Cert.KernelIdeal.Gen.facts) := fun m g _ =>
  (θ_run _ _ _).mono (fun _ h => ⟨fun c => (h.1 c).2, h.2⟩) (Cert.KernelIdealProof.run_main (F := Ideal) m g)

/-- and of the reference, which has no semaphore. -/
theorem quiescent_reference : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run (F := Ideal) m g)

/-- Every device's result is the reference's: the sum of the array's two halves. -/
theorem same_value : Cert.algebraic_KernelIdeal_ReferenceIdeal (hKernelIdeal := Cert.KernelIdeal.Gen.facts)
    (hReferenceIdeal := Cert.ReferenceIdeal.Gen.facts) := fun m g m' g' _ hm =>
  ⟨Cert.Value.total (m' ((0 : Dev Cert.ReferenceIdeal.nD).tc.loc Cert.ReferenceIdeal.main_arg0)),
    (θ_run _ _ _).mono (fun _ h c => ⟨((h.1 c).1).trans (Cert.Value.kernel_eq _ m hm c), (h.1 c).2⟩)
      (Cert.KernelIdealProof.run_main (F := Ideal) m g),
    (θ_run _ _ _).mono (fun _ h => ⟨((h 0).1).trans (Cert.Value.reference_eq _), (h 0).2⟩)
      (Cert.ReferenceIdeal.Value.run (F := Ideal) m' g')⟩

/-- The whole claim. -/
theorem claim : Cert.Claim := ⟨Cert.Kernel.Gen.facts, Cert.KernelIdeal.Gen.facts, Cert.ReferenceIdeal.Gen.facts,
  quiescent_kernel, quiescent_ideal, quiescent_reference, trivial, same_value⟩

end Cert.Proof

end
